-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_fits_KernelIdeal [hPre_fits_KernelIdeal : Cert.Pre_fits_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_fits_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_fits_ReferenceIdeal [hPre_fits_ReferenceIdeal : Cert.Pre_fits_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_fits_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_fits_KernelIdeal [hKernelIdeal : Cert.KernelIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_fits_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_fits_ReferenceIdeal [hReferenceIdeal : Cert.ReferenceIdeal.Facts] [hPre_fits_ReferenceIdeal : Cert.Pre_fits_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_fits_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_fits_KernelIdeal [hKernelIdeal : Cert.KernelIdeal.Facts] [hReferenceIdeal : Cert.ReferenceIdeal.Facts] [hPre_fits_KernelIdeal : Cert.Pre_fits_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_fits_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![8192, 1]⟩ 0 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![32, 256, 512]⟩ 0 16 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![8192, 512]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_fits_KernelIdeal : Cert.Pre_fits_KernelIdeal.Facts) (hPre_fits_ReferenceIdeal : Cert.Pre_fits_ReferenceIdeal.Facts),
    quiescent_Kernel (hKernel := hKernel)
    ∧ quiescent_KernelIdeal (hKernelIdeal := hKernelIdeal)
    ∧ quiescent_KernelIdeal_pre_fits_KernelIdeal (hKernelIdeal := hKernelIdeal) (hPre_fits_KernelIdeal := hPre_fits_KernelIdeal)
    ∧ quiescent_ReferenceIdeal (hReferenceIdeal := hReferenceIdeal)
    ∧ quiescent_ReferenceIdeal_pre_fits_ReferenceIdeal (hReferenceIdeal := hReferenceIdeal) (hPre_fits_ReferenceIdeal := hPre_fits_ReferenceIdeal)
    ∧ preserves_Kernel_KernelIdeal
    ∧ algebraic_KernelIdeal_ReferenceIdeal_pre_fits_KernelIdeal (hKernelIdeal := hKernelIdeal) (hReferenceIdeal := hReferenceIdeal) (hPre_fits_KernelIdeal := hPre_fits_KernelIdeal)
-- ==== Pre_fits_KernelIdeal.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S_ : Shape := ⟨0, ![]⟩
abbrev S512x16 : Shape := ⟨2, ![512, 16]⟩
abbrev S1x512x16 : Shape := ⟨3, ![1, 512, 16]⟩
abbrev S1x16 : Shape := ⟨2, ![1, 16]⟩

class Facts : Prop where
  bcast_S_S512x1 : S_.BroadcastsInDim S512x1 (![] : Fin 0 → Fin S512x1.rank)
  bcast_S512x1_S512x16_0_1 : S512x1.BroadcastsInDim S512x16 (![0, 1] : Fin 2 → Fin S512x16.rank)
  natLt_1_32 : 1 < 32
  shapeCasts_S512x16_S1x512x16 : S512x16.ShapeCasts S1x512x16
  reducesTo_S1x512x16_S1x16_d1 : S1x512x16.ReducesTo [1] S1x16
  h_S_ : 0 < S_.numel
  bcast_S_S1x16 : S_.BroadcastsInDim S1x16 (![] : Fin 0 → Fin S1x16.rank)

variable [Facts]

def fn {F : FTy → Type} [FloatOps F] (main_arg0 : FVec F S512x256 .bf16) (main_arg1 : FVec F S256x32 .bf16) (main_arg2 : IVec S512x1 32) (main_arg3 : FVec F S2x256x512 .bf16) : IVec S512x1 1 × IVec S1x16 1 :=
  let main_c : IVec S_ 32 := constantI S_ 32 2#32
  let main_v0 : IVec S512x1 32 := broadcastInDim S512x1 ![] bcast_S_S512x1 main_c
  let main_v1 : IVec S512x1 32 := Host.divsi main_arg2 main_v0
  let main_v2 : IVec S512x16 32 := iotaInDim S512x16 32 1
  let main_v3 : IVec S512x16 32 := broadcastInDim S512x16 ![0, 1] bcast_S512x1_S512x16_0_1 main_v1
  let main_v4 : IVec S512x16 1 := cmpi .eq main_v3 main_v2
  let main_v5 : IVec S512x16 32 := (extui 32 · natLt_1_32) main_v4
  let main_v6 : IVec S1x512x16 32 := shapeCast S1x512x16 main_v5 shapeCasts_S512x16_S1x512x16
  let main_c_0 : IVec S_ 32 := constantI S_ 32 0#32
  let main_v7 : IVec S1x16 32 := (fun x v => Host.reduce IntOp.addi x v reducesTo_S1x512x16_S1x16_d1 h_S_) main_v6 main_c_0
  let main_c_1 : IVec S_ 32 := constantI S_ 32 0#32
  let main_v8 : IVec S512x1 32 := broadcastInDim S512x1 ![] bcast_S_S512x1 main_c_1
  let main_v9 : IVec S512x1 1 := cmpi .sge main_arg2 main_v8
  let main_c_2 : IVec S_ 32 := constantI S_ 32 32#32
  let main_v10 : IVec S512x1 32 := broadcastInDim S512x1 ![] bcast_S_S512x1 main_c_2
  let main_v11 : IVec S512x1 1 := cmpi .slt main_arg2 main_v10
  let main_v12 : IVec S512x1 1 := andi main_v9 main_v11
  let main_c_3 : IVec S_ 32 := constantI S_ 32 64#32
  let main_v13 : IVec S1x16 32 := broadcastInDim S1x16 ![] bcast_S_S1x16 main_c_3
  let main_v14 : IVec S1x16 1 := cmpi .sle main_v7 main_v13
  (main_v12, main_v14)
-- ==== Pre_fits_ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S_ : Shape := ⟨0, ![]⟩
abbrev S8192x16 : Shape := ⟨2, ![8192, 16]⟩
abbrev S16x512x16 : Shape := ⟨3, ![16, 512, 16]⟩
abbrev S16x16 : Shape := ⟨2, ![16, 16]⟩

class Facts : Prop where
  bcast_S_S8192x1 : S_.BroadcastsInDim S8192x1 (![] : Fin 0 → Fin S8192x1.rank)
  bcast_S8192x1_S8192x16_0_1 : S8192x1.BroadcastsInDim S8192x16 (![0, 1] : Fin 2 → Fin S8192x16.rank)
  natLt_1_32 : 1 < 32
  shapeCasts_S8192x16_S16x512x16 : S8192x16.ShapeCasts S16x512x16
  reducesTo_S16x512x16_S16x16_d1 : S16x512x16.ReducesTo [1] S16x16
  h_S_ : 0 < S_.numel
  bcast_S_S16x16 : S_.BroadcastsInDim S16x16 (![] : Fin 0 → Fin S16x16.rank)

variable [Facts]

def fn {F : FTy → Type} [FloatOps F] (main_arg0 : FVec F S8192x256 .bf16) (main_arg1 : FVec F S256x32 .bf16) (main_arg2 : IVec S8192x1 32) (main_arg3 : FVec F S32x256x512 .bf16) : IVec S8192x1 1 × IVec S16x16 1 :=
  let main_c : IVec S_ 32 := constantI S_ 32 2#32
  let main_v0 : IVec S8192x1 32 := broadcastInDim S8192x1 ![] bcast_S_S8192x1 main_c
  let main_v1 : IVec S8192x1 32 := Host.divsi main_arg2 main_v0
  let main_v2 : IVec S8192x16 32 := iotaInDim S8192x16 32 1
  let main_v3 : IVec S8192x16 32 := broadcastInDim S8192x16 ![0, 1] bcast_S8192x1_S8192x16_0_1 main_v1
  let main_v4 : IVec S8192x16 1 := cmpi .eq main_v3 main_v2
  let main_v5 : IVec S8192x16 32 := (extui 32 · natLt_1_32) main_v4
  let main_v6 : IVec S16x512x16 32 := shapeCast S16x512x16 main_v5 shapeCasts_S8192x16_S16x512x16
  let main_c_0 : IVec S_ 32 := constantI S_ 32 0#32
  let main_v7 : IVec S16x16 32 := (fun x v => Host.reduce IntOp.addi x v reducesTo_S16x512x16_S16x16_d1 h_S_) main_v6 main_c_0
  let main_c_1 : IVec S_ 32 := constantI S_ 32 0#32
  let main_v8 : IVec S8192x1 32 := broadcastInDim S8192x1 ![] bcast_S_S8192x1 main_c_1
  let main_v9 : IVec S8192x1 1 := cmpi .sge main_arg2 main_v8
  let main_c_2 : IVec S_ 32 := constantI S_ 32 32#32
  let main_v10 : IVec S8192x1 32 := broadcastInDim S8192x1 ![] bcast_S_S8192x1 main_c_2
  let main_v11 : IVec S8192x1 1 := cmpi .slt main_arg2 main_v10
  let main_v12 : IVec S8192x1 1 := andi main_v9 main_v11
  let main_c_3 : IVec S_ 32 := constantI S_ 32 64#32
  let main_v13 : IVec S16x16 32 := broadcastInDim S16x16 ![] bcast_S_S16x16 main_c_3
  let main_v14 : IVec S16x16 1 := cmpi .sle main_v7 main_v13
  (main_v12, main_v14)
-- ==== Kernel.lean ====
abbrev S512x256 : Shape := ⟨2, ![512, 256]⟩
abbrev S256x32 : Shape := ⟨2, ![256, 32]⟩
abbrev S512x1 : Shape := ⟨2, ![512, 1]⟩
abbrev S2x256x512 : Shape := ⟨3, ![2, 256, 512]⟩
abbrev S512x512 : Shape := ⟨2, ![512, 512]⟩
abbrev S16x65x256 : Shape := ⟨3, ![16, 65, 256]⟩
abbrev S16x64x512 : Shape := ⟨3, ![16, 64, 512]⟩
abbrev S15 : Shape := ⟨1, ![15]⟩
abbrev S_ : Shape := ⟨0, ![]⟩
abbrev S512x32 : Shape := ⟨2, ![512, 32]⟩
abbrev S32 : Shape := ⟨1, ![32]⟩
abbrev S1x32 : Shape := ⟨2, ![1, 32]⟩
abbrev S512 : Shape := ⟨1, ![512]⟩
abbrev S1x1 : Shape := ⟨2, ![1, 1]⟩
abbrev S1x31 : Shape := ⟨2, ![1, 31]⟩
abbrev S512x1024 : Shape := ⟨2, ![512, 1024]⟩
abbrev S1024x256 : Shape := ⟨2, ![1024, 256]⟩
abbrev S1x192 : Shape := ⟨2, ![1, 192]⟩
abbrev S1x256 : Shape := ⟨2, ![1, 256]⟩
abbrev S16x64x256 : Shape := ⟨3, ![16, 64, 256]⟩
abbrev S1x1x256 : Shape := ⟨3, ![1, 1, 256]⟩
abbrev S16x1x256 : Shape := ⟨3, ![16, 1, 256]⟩
abbrev S1 : Shape := ⟨1, ![1]⟩
abbrev S1x65x256 : Shape := ⟨3, ![1, 65, 256]⟩
abbrev S65x256 : Shape := ⟨2, ![65, 256]⟩
abbrev S64x1 : Shape := ⟨2, ![64, 1]⟩
abbrev S1x1x32 : Shape := ⟨3, ![1, 1, 32]⟩
abbrev S1x1x1 : Shape := ⟨3, ![1, 1, 1]⟩
abbrev S1x64x256 : Shape := ⟨3, ![1, 64, 256]⟩
abbrev S64x256 : Shape := ⟨2, ![64, 256]⟩
abbrev S1x256x512 : Shape := ⟨3, ![1, 256, 512]⟩
abbrev S256x512 : Shape := ⟨2, ![256, 512]⟩
abbrev S64x512 : Shape := ⟨2, ![64, 512]⟩
abbrev S1x64x512 : Shape := ⟨3, ![1, 64, 512]⟩
abbrev S5x1x256 : Shape := ⟨3, ![5, 1, 256]⟩
abbrev S5x256 : Shape := ⟨2, ![5, 256]⟩
abbrev S5x32 : Shape := ⟨2, ![5, 32]⟩
abbrev S5 : Shape := ⟨1, ![5]⟩
abbrev S5x1 : Shape := ⟨2, ![5, 1]⟩
abbrev S320x1 : Shape := ⟨2, ![320, 1]⟩
abbrev S320x5 : Shape := ⟨2, ![320, 5]⟩
abbrev S5x64x256 : Shape := ⟨3, ![5, 64, 256]⟩
abbrev S320x256 : Shape := ⟨2, ![320, 256]⟩
abbrev S320x512 : Shape := ⟨2, ![320, 512]⟩
abbrev S5x64x512 : Shape := ⟨3, ![5, 64, 512]⟩
abbrev S4x64x512 : Shape := ⟨3, ![4, 64, 512]⟩
abbrev S16x256 : Shape := ⟨2, ![16, 256]⟩
abbrev S16x32 : Shape := ⟨2, ![16, 32]⟩
abbrev S16x1 : Shape := ⟨2, ![16, 1]⟩

abbrev nBuf : Space → Nat
  | .hbm => 5
  | .vmem => 8
  | .smem => 0
  | _ => 0

abbrev bufTy : (tb : Table) → Fin (tcTables nBuf tb) → BufTy
  | .hbm, ⟨0, _⟩ => ⟨S512x256, .bf16⟩
  | .hbm, ⟨1, _⟩ => ⟨S256x32, .bf16⟩
  | .hbm, ⟨2, _⟩ => ⟨S512x1, .i32⟩
  | .hbm, ⟨3, _⟩ => ⟨S2x256x512, .bf16⟩
  | .hbm, ⟨4, _⟩ => ⟨S512x512, .f32⟩
  | .local _ .vmem, ⟨0, _⟩ => ⟨S512x256, .bf16⟩
  | .local _ .vmem, ⟨1, _⟩ => ⟨S512x1, .i32⟩
  | .local _ .vmem, ⟨2, _⟩ => ⟨S2x256x512, .bf16⟩
  | .local _ .vmem, ⟨3, _⟩ => ⟨S512x512, .f32⟩
  | .local _ .vmem, ⟨4, _⟩ => ⟨S16x65x256, .bf16⟩
  | .local _ .vmem, ⟨5, _⟩ => ⟨S16x65x256, .bf16⟩
  | .local _ .vmem, ⟨6, _⟩ => ⟨S16x64x512, .bf16⟩
  | .local _ .vmem, ⟨7, _⟩ => ⟨S16x64x512, .bf16⟩
  | _, _ => ⟨S512x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_82 : BitVec 32 := 1#32
  let v141 : BitVec 32 := Scalar.addi v2 c1_i32_82
  let c16_i32_83 : BitVec 32 := 16#32
  let v142 : BitVec 32 := Scalar.remsi v141 c16_i32_83
  let c1_i32_88 : BitVec 32 := 1#32
  let v143 : BitVec 32 := Scalar.muli v142 c1_i32_88
  let v144 : BitVec 32 := Scalar.addi c0_i32_89 v143
  v144.toNat
def k0_dev17 (d0 : Dev nD) : Nat :=
  let c0_i32_101 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_94 : BitVec 32 := 2#32
  let v153 : BitVec 32 := Scalar.addi v2 c2_i32_94
  let c16_i32_95 : BitVec 32 := 16#32
  let v154 : BitVec 32 := Scalar.remsi v153 c16_i32_95
  let c1_i32_100 : BitVec 32 := 1#32
  let v155 : BitVec 32 := Scalar.muli v154 c1_i32_100
  let v156 : BitVec 32 := Scalar.addi c0_i32_101 v155
  v156.toNat
def k0_dev18 (d0 : Dev nD) : Nat :=
  let c0_i32_113 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_106 : BitVec 32 := 3#32
  let v165 : BitVec 32 := Scalar.addi v2 c3_i32_106
  let c16_i32_107 : BitVec 32 := 16#32
  let v166 : BitVec 32 := Scalar.remsi v165 c16_i32_107
  let c1_i32_112 : BitVec 32 := 1#32
  let v167 : BitVec 32 := Scalar.muli v166 c1_i32_112
  let v168 : BitVec 32 := Scalar.addi c0_i32_113 v167
  v168.toNat
def k0_dev19 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_118 : BitVec 32 := 4#32
  let v177 : BitVec 32 := Scalar.addi v2 c4_i32_118
  let c16_i32_119 : BitVec 32 := 16#32
  let v178 : BitVec 32 := Scalar.remsi v177 c16_i32_119
  let c1_i32_124 : BitVec 32 := 1#32
  let v179 : BitVec 32 := Scalar.muli v178 c1_i32_124
  let v180 : BitVec 32 := Scalar.addi c0_i32_125 v179
  v180.toNat
def k0_dev20 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_130 : BitVec 32 := 5#32
  let v189 : BitVec 32 := Scalar.addi v2 c5_i32_130
  let c16_i32_131 : BitVec 32 := 16#32
  let v190 : BitVec 32 := Scalar.remsi v189 c16_i32_131
  let c1_i32_136 : BitVec 32 := 1#32
  let v191 : BitVec 32 := Scalar.muli v190 c1_i32_136
  let v192 : BitVec 32 := Scalar.addi c0_i32_137 v191
  v192.toNat
def k0_dev21 (d0 : Dev nD) : Nat :=
  let c0_i32_149 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_142 : BitVec 32 := 6#32
  let v201 : BitVec 32 := Scalar.addi v2 c6_i32_142
  let c16_i32_143 : BitVec 32 := 16#32
  let v202 : BitVec 32 := Scalar.remsi v201 c16_i32_143
  let c1_i32_148 : BitVec 32 := 1#32
  let v203 : BitVec 32 := Scalar.muli v202 c1_i32_148
  let v204 : BitVec 32 := Scalar.addi c0_i32_149 v203
  v204.toNat
def k0_dev22 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_154 : BitVec 32 := 7#32
  let v213 : BitVec 32 := Scalar.addi v2 c7_i32_154
  let c16_i32_155 : BitVec 32 := 16#32
  let v214 : BitVec 32 := Scalar.remsi v213 c16_i32_155
  let c1_i32_160 : BitVec 32 := 1#32
  let v215 : BitVec 32 := Scalar.muli v214 c1_i32_160
  let v216 : BitVec 32 := Scalar.addi c0_i32_161 v215
  v216.toNat
def k0_dev23 (d0 : Dev nD) : Nat :=
  let c0_i32_173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_166 : BitVec 32 := 8#32
  let v225 : BitVec 32 := Scalar.addi v2 c8_i32_166
  let c16_i32_167 : BitVec 32 := 16#32
  let v226 : BitVec 32 := Scalar.remsi v225 c16_i32_167
  let c1_i32_172 : BitVec 32 := 1#32
  let v227 : BitVec 32 := Scalar.muli v226 c1_i32_172
  let v228 : BitVec 32 := Scalar.addi c0_i32_173 v227
  v228.toNat
def k0_dev24 (d0 : Dev nD) : Nat :=
  let c0_i32_185 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_178 : BitVec 32 := 9#32
  let v237 : BitVec 32 := Scalar.addi v2 c9_i32_178
  let c16_i32_179 : BitVec 32 := 16#32
  let v238 : BitVec 32 := Scalar.remsi v237 c16_i32_179
  let c1_i32_184 : BitVec 32 := 1#32
  let v239 : BitVec 32 := Scalar.muli v238 c1_i32_184
  let v240 : BitVec 32 := Scalar.addi c0_i32_185 v239
  v240.toNat
def k0_dev25 (d0 : Dev nD) : Nat :=
  let c0_i32_197 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_190 : BitVec 32 := 10#32
  let v249 : BitVec 32 := Scalar.addi v2 c10_i32_190
  let c16_i32_191 : BitVec 32 := 16#32
  let v250 : BitVec 32 := Scalar.remsi v249 c16_i32_191
  let c1_i32_196 : BitVec 32 := 1#32
  let v251 : BitVec 32 := Scalar.muli v250 c1_i32_196
  let v252 : BitVec 32 := Scalar.addi c0_i32_197 v251
  v252.toNat
def k0_dev26 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_202 : BitVec 32 := 11#32
  let v261 : BitVec 32 := Scalar.addi v2 c11_i32_202
  let c16_i32_203 : BitVec 32 := 16#32
  let v262 : BitVec 32 := Scalar.remsi v261 c16_i32_203
  let c1_i32_208 : BitVec 32 := 1#32
  let v263 : BitVec 32 := Scalar.muli v262 c1_i32_208
  let v264 : BitVec 32 := Scalar.addi c0_i32_209 v263
  v264.toNat
def k0_dev27 (d0 : Dev nD) : Nat :=
  let c0_i32_221 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_214 : BitVec 32 := 12#32
  let v273 : BitVec 32 := Scalar.addi v2 c12_i32_214
  let c16_i32_215 : BitVec 32 := 16#32
  let v274 : BitVec 32 := Scalar.remsi v273 c16_i32_215
  let c1_i32_220 : BitVec 32 := 1#32
  let v275 : BitVec 32 := Scalar.muli v274 c1_i32_220
  let v276 : BitVec 32 := Scalar.addi c0_i32_221 v275
  v276.toNat
def k0_dev28 (d0 : Dev nD) : Nat :=
  let c0_i32_233 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_226 : BitVec 32 := 13#32
  let v285 : BitVec 32 := Scalar.addi v2 c13_i32_226
  let c16_i32_227 : BitVec 32 := 16#32
  let v286 : BitVec 32 := Scalar.remsi v285 c16_i32_227
  let c1_i32_232 : BitVec 32 := 1#32
  let v287 : BitVec 32 := Scalar.muli v286 c1_i32_232
  let v288 : BitVec 32 := Scalar.addi c0_i32_233 v287
  v288.toNat
def k0_dev29 (d0 : Dev nD) : Nat :=
  let c0_i32_245 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_238 : BitVec 32 := 14#32
  let v297 : BitVec 32 := Scalar.addi v2 c14_i32_238
  let c16_i32_239 : BitVec 32 := 16#32
  let v298 : BitVec 32 := Scalar.remsi v297 c16_i32_239
  let c1_i32_244 : BitVec 32 := 1#32
  let v299 : BitVec 32 := Scalar.muli v298 c1_i32_244
  let v300 : BitVec 32 := Scalar.addi c0_i32_245 v299
  v300.toNat
def k0_dev30 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_250 : BitVec 32 := 15#32
  let v309 : BitVec 32 := Scalar.addi v2 c15_i32_250
  let c16_i32_251 : BitVec 32 := 16#32
  let v310 : BitVec 32 := Scalar.remsi v309 c16_i32_251
  let c1_i32_256 : BitVec 32 := 1#32
  let v311 : BitVec 32 := Scalar.muli v310 c1_i32_256
  let v312 : BitVec 32 := Scalar.addi c0_i32_257 v311
  v312.toNat
def k0_dev31 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_353 : BitVec 32 := 1#32
  let v459 : BitVec 32 := Scalar.addi v2 c1_i32_353
  let c16_i32_354 : BitVec 32 := 16#32
  let v460 : BitVec 32 := Scalar.remsi v459 c16_i32_354
  let c1_i32_359 : BitVec 32 := 1#32
  let v461 : BitVec 32 := Scalar.muli v460 c1_i32_359
  let v462 : BitVec 32 := Scalar.addi c0_i32_360 v461
  v462.toNat
def k0_dev32 (d0 : Dev nD) : Nat :=
  let c0_i32_372 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_365 : BitVec 32 := 2#32
  let v471 : BitVec 32 := Scalar.addi v2 c2_i32_365
  let c16_i32_366 : BitVec 32 := 16#32
  let v472 : BitVec 32 := Scalar.remsi v471 c16_i32_366
  let c1_i32_371 : BitVec 32 := 1#32
  let v473 : BitVec 32 := Scalar.muli v472 c1_i32_371
  let v474 : BitVec 32 := Scalar.addi c0_i32_372 v473
  v474.toNat
def k0_dev33 (d0 : Dev nD) : Nat :=
  let c0_i32_384 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_377 : BitVec 32 := 3#32
  let v483 : BitVec 32 := Scalar.addi v2 c3_i32_377
  let c16_i32_378 : BitVec 32 := 16#32
  let v484 : BitVec 32 := Scalar.remsi v483 c16_i32_378
  let c1_i32_383 : BitVec 32 := 1#32
  let v485 : BitVec 32 := Scalar.muli v484 c1_i32_383
  let v486 : BitVec 32 := Scalar.addi c0_i32_384 v485
  v486.toNat
def k0_dev34 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_389 : BitVec 32 := 4#32
  let v495 : BitVec 32 := Scalar.addi v2 c4_i32_389
  let c16_i32_390 : BitVec 32 := 16#32
  let v496 : BitVec 32 := Scalar.remsi v495 c16_i32_390
  let c1_i32_395 : BitVec 32 := 1#32
  let v497 : BitVec 32 := Scalar.muli v496 c1_i32_395
  let v498 : BitVec 32 := Scalar.addi c0_i32_396 v497
  v498.toNat
def k0_dev35 (d0 : Dev nD) : Nat :=
  let c0_i32_408 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_401 : BitVec 32 := 5#32
  let v507 : BitVec 32 := Scalar.addi v2 c5_i32_401
  let c16_i32_402 : BitVec 32 := 16#32
  let v508 : BitVec 32 := Scalar.remsi v507 c16_i32_402
  let c1_i32_407 : BitVec 32 := 1#32
  let v509 : BitVec 32 := Scalar.muli v508 c1_i32_407
  let v510 : BitVec 32 := Scalar.addi c0_i32_408 v509
  v510.toNat
def k0_dev36 (d0 : Dev nD) : Nat :=
  let c0_i32_486 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_479 : BitVec 32 := 6#32
  let v608 : BitVec 32 := Scalar.addi v2 c6_i32_479
  let c16_i32_480 : BitVec 32 := 16#32
  let v609 : BitVec 32 := Scalar.remsi v608 c16_i32_480
  let c1_i32_485 : BitVec 32 := 1#32
  let v610 : BitVec 32 := Scalar.muli v609 c1_i32_485
  let v611 : BitVec 32 := Scalar.addi c0_i32_486 v610
  v611.toNat
def k0_dev37 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_491 : BitVec 32 := 7#32
  let v620 : BitVec 32 := Scalar.addi v2 c7_i32_491
  let c16_i32_492 : BitVec 32 := 16#32
  let v621 : BitVec 32 := Scalar.remsi v620 c16_i32_492
  let c1_i32_497 : BitVec 32 := 1#32
  let v622 : BitVec 32 := Scalar.muli v621 c1_i32_497
  let v623 : BitVec 32 := Scalar.addi c0_i32_498 v622
  v623.toNat
def k0_dev38 (d0 : Dev nD) : Nat :=
  let c0_i32_510 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_503 : BitVec 32 := 8#32
  let v632 : BitVec 32 := Scalar.addi v2 c8_i32_503
  let c16_i32_504 : BitVec 32 := 16#32
  let v633 : BitVec 32 := Scalar.remsi v632 c16_i32_504
  let c1_i32_509 : BitVec 32 := 1#32
  let v634 : BitVec 32 := Scalar.muli v633 c1_i32_509
  let v635 : BitVec 32 := Scalar.addi c0_i32_510 v634
  v635.toNat
def k0_dev39 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_515 : BitVec 32 := 9#32
  let v644 : BitVec 32 := Scalar.addi v2 c9_i32_515
  let c16_i32_516 : BitVec 32 := 16#32
  let v645 : BitVec 32 := Scalar.remsi v644 c16_i32_516
  let c1_i32_521 : BitVec 32 := 1#32
  let v646 : BitVec 32 := Scalar.muli v645 c1_i32_521
  let v647 : BitVec 32 := Scalar.addi c0_i32_522 v646
  v647.toNat
def k0_dev40 (d0 : Dev nD) : Nat :=
  let c0_i32_534 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_527 : BitVec 32 := 10#32
  let v656 : BitVec 32 := Scalar.addi v2 c10_i32_527
  let c16_i32_528 : BitVec 32 := 16#32
  let v657 : BitVec 32 := Scalar.remsi v656 c16_i32_528
  let c1_i32_533 : BitVec 32 := 1#32
  let v658 : BitVec 32 := Scalar.muli v657 c1_i32_533
  let v659 : BitVec 32 := Scalar.addi c0_i32_534 v658
  v659.toNat
def k0_dev41 (d0 : Dev nD) : Nat :=
  let c0_i32_612 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_605 : BitVec 32 := 11#32
  let v757 : BitVec 32 := Scalar.addi v2 c11_i32_605
  let c16_i32_606 : BitVec 32 := 16#32
  let v758 : BitVec 32 := Scalar.remsi v757 c16_i32_606
  let c1_i32_611 : BitVec 32 := 1#32
  let v759 : BitVec 32 := Scalar.muli v758 c1_i32_611
  let v760 : BitVec 32 := Scalar.addi c0_i32_612 v759
  v760.toNat
def k0_dev42 (d0 : Dev nD) : Nat :=
  let c0_i32_624 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_617 : BitVec 32 := 12#32
  let v769 : BitVec 32 := Scalar.addi v2 c12_i32_617
  let c16_i32_618 : BitVec 32 := 16#32
  let v770 : BitVec 32 := Scalar.remsi v769 c16_i32_618
  let c1_i32_623 : BitVec 32 := 1#32
  let v771 : BitVec 32 := Scalar.muli v770 c1_i32_623
  let v772 : BitVec 32 := Scalar.addi c0_i32_624 v771
  v772.toNat
def k0_dev43 (d0 : Dev nD) : Nat :=
  let c0_i32_636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_629 : BitVec 32 := 13#32
  let v781 : BitVec 32 := Scalar.addi v2 c13_i32_629
  let c16_i32_630 : BitVec 32 := 16#32
  let v782 : BitVec 32 := Scalar.remsi v781 c16_i32_630
  let c1_i32_635 : BitVec 32 := 1#32
  let v783 : BitVec 32 := Scalar.muli v782 c1_i32_635
  let v784 : BitVec 32 := Scalar.addi c0_i32_636 v783
  v784.toNat
def k0_dev44 (d0 : Dev nD) : Nat :=
  let c0_i32_648 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_641 : BitVec 32 := 14#32
  let v793 : BitVec 32 := Scalar.addi v2 c14_i32_641
  let c16_i32_642 : BitVec 32 := 16#32
  let v794 : BitVec 32 := Scalar.remsi v793 c16_i32_642
  let c1_i32_647 : BitVec 32 := 1#32
  let v795 : BitVec 32 := Scalar.muli v794 c1_i32_647
  let v796 : BitVec 32 := Scalar.addi c0_i32_648 v795
  v796.toNat
def k0_dev45 (d0 : Dev nD) : Nat :=
  let c0_i32_660 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_653 : BitVec 32 := 15#32
  let v805 : BitVec 32 := Scalar.addi v2 c15_i32_653
  let c16_i32_654 : BitVec 32 := 16#32
  let v806 : BitVec 32 := Scalar.remsi v805 c16_i32_654
  let c1_i32_659 : BitVec 32 := 1#32
  let v807 : BitVec 32 := Scalar.muli v806 c1_i32_659
  let v808 : BitVec 32 := Scalar.addi c0_i32_660 v807
  v808.toNat
abbrev stage0_0 : Fin 1 → Memref sig .tc .vmem S512x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S8192x256 : Shape := ⟨2, ![8192, 256]⟩
abbrev S256x32 : Shape := ⟨2, ![256, 32]⟩
abbrev S8192x1 : Shape := ⟨2, ![8192, 1]⟩
abbrev S32x256x512 : Shape := ⟨3, ![32, 256, 512]⟩
abbrev S8192x32 : Shape := ⟨2, ![8192, 32]⟩
abbrev S_ : Shape := ⟨0, ![]⟩
abbrev S8192x32x512 : Shape := ⟨3, ![8192, 32, 512]⟩
abbrev S8192x32x1 : Shape := ⟨3, ![8192, 32, 1]⟩
abbrev S8192x512 : Shape := ⟨2, ![8192, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S256x32, .bf16⟩
  | .hbm, ⟨2, _⟩ => ⟨S8192x1, .i32⟩
  | .hbm, ⟨3, _⟩ => ⟨S32x256x512, .bf16⟩
  | .hbm, ⟨4, _⟩ => ⟨S8192x32, .i32⟩
  | .hbm, ⟨5, _⟩ => ⟨S8192x32, .i32⟩
  | .hbm, ⟨6, _⟩ => ⟨S8192x32, .i1⟩
  | .hbm, ⟨7, _⟩ => ⟨S8192x32, .f32⟩
  | .hbm, ⟨8, _⟩ => ⟨S_, .f32⟩
  | .hbm, ⟨9, _⟩ => ⟨S_, .f32⟩
  | .hbm, ⟨10, _⟩ => ⟨S8192x32, .f32⟩
  | .hbm, ⟨11, _⟩ => ⟨S8192x32, .f32⟩
  | .hbm, ⟨12, _⟩ => ⟨S8192x32, .f32⟩
  | .hbm, ⟨13, _⟩ => ⟨S_, .f32⟩
  | .hbm, ⟨14, _⟩ => ⟨S8192x32, .f32⟩
  | .hbm, ⟨15, _⟩ => ⟨S8192x32, .i1⟩
  | .hbm, ⟨16, _⟩ => ⟨S8192x32, .i1⟩
  | .hbm, ⟨17, _⟩ => ⟨S8192x32x512, .f32⟩
  | .hbm, ⟨18, _⟩ => ⟨S8192x32x1, .i1⟩
  | .hbm, ⟨19, _⟩ => ⟨S_, .f32⟩
  | .hbm, ⟨20, _⟩ => ⟨S_, .f32⟩
  | .hbm, ⟨21, _⟩ => ⟨S8192x32x512, .i1⟩
  | .hbm, ⟨22, _⟩ => ⟨S8192x32x512, .f32⟩
  | .hbm, ⟨23, _⟩ => ⟨S8192x32x512, .f32⟩
  | .hbm, ⟨24, _⟩ => ⟨S_, .f32⟩
  | .hbm, ⟨25, _⟩ => ⟨S8192x512, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Proof.Slot.lean ====
/-
# The slots of the four exchange buffers

Each exchange buffer is an array of sixteen slots, one per distance around the mesh. A copy moves one slot; a load or a
store touches a run of consecutive slots. Here: which elements a slot or a run of slots names (`slab`), what a copy
into a slot leaves there, and what a store to a run of slots leaves there.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ValueLayout
public import Idealize.ShloMosaic.Lib.Tactic

@[expose] public section

noncomputable section

namespace Cert.MoE

open Cert.KernelIdeal Cert.KernelIdeal.Gen
open Idealize.ShloMosaic
open Idealize.ShloMosaic.ValueIdx

/-! ## Runs of slots, for any array whose leading axis counts slots -/

section Slab

variable {n a b : ℕ}

/-- The slot an element lies in. -/
def slotOf (i : (⟨3, ![n, a, b]⟩ : Shape).Idx) : Fin n := i 0

/-- The elements of the slots in `A`. -/
def slab (A : Finset (Fin n)) : Finset (⟨3, ![n, a, b]⟩ : Shape).Idx :=
  Finset.univ.filter fun i => slotOf i ∈ A

/-- An element is in the slots `A` when the slot it lies in is. -/
theorem mem_slab {A : Finset (Fin n)} {i : (⟨3, ![n, a, b]⟩ : Shape).Idx} : i ∈ slab A ↔ slotOf i ∈ A := by
  simp [slab]

/-- More slots have more elements. -/
theorem slab_mono {A B : Finset (Fin n)} (h : A ⊆ B) : (slab A : Finset (⟨3, ![n, a, b]⟩ : Shape).Idx) ⊆ slab B :=
  fun i hi => mem_slab.mpr (h (mem_slab.mp hi))

/-- All the slots are all the elements. -/
theorem slab_univ : (slab Finset.univ : Finset (⟨3, ![n, a, b]⟩ : Shape).Idx) = Finset.univ := by
  ext i; simp [mem_slab]

/-- Different slots have different elements. -/
theorem slab_disjoint {A B : Finset (Fin n)} (h : Disjoint A B) :
    Disjoint (slab A : Finset (⟨3, ![n, a, b]⟩ : Shape).Idx) (slab B) :=
  Finset.disjoint_left.mpr fun i hi hi' => Finset.disjoint_left.mp h (mem_slab.mp hi) (mem_slab.mp hi')

/-- The elements of slots of either kind are those of the one and those of the other. -/
theorem slab_union {A B : Finset (Fin n)} :
    (slab (A ∪ B) : Finset (⟨3, ![n, a, b]⟩ : Shape).Idx) = slab A ∪ slab B := by
  ext i; simp only [Finset.mem_union, mem_slab]

variable {sig : RefSig} {κ : Kind} {sp : Space} {e : EltTy} (v : View sig κ sp ⟨3, ![n, a, b]⟩ e)

/-- Where an element of slot `k`, named by its position within the slot, lies in the array. -/
theorem emb_slot (k : ℕ) (hk : k < n)
    (h : ∀ x, (![k, 0, 0] : Fin 3 → ℕ) x + (⟨3, ![1, a, b]⟩ : Shape).size x ≤ (⟨3, ![n, a, b]⟩ : Shape).size x)
    (hn : (⟨2, ![a, b]⟩ : Shape).numel = (⟨3, ![1, a, b]⟩ : Shape).numel) (i : Fin a) (j : Fin b) :
    ((v.slice (Rect.unit (s := ⟨3, ![n, a, b]⟩) ![k, 0, 0] (⟨3, ![1, a, b]⟩ : Shape).size h)).reshape ⟨2, ![a, b]⟩ hn).emb (ix2 i j)
      = v.emb (ix3 (⟨k, hk⟩ : Fin n) i j) := by
  show v.emb ((Rect.unit (s := ⟨3, ![n, a, b]⟩) ![k, 0, 0] (⟨3, ![1, a, b]⟩ : Shape).size h).emb (Shape.reshapeEquiv hn (ix2 i j))) = _
  rw [reshapeEquiv_ix2_1ab]
  congr 1
  funext x
  fin_cases x
  · exact Fin.ext (by show k + 1 * 0 = k; omega)
  · exact Fin.ext (by show 0 + 1 * i.val = i.val; omega)
  · exact Fin.ext (by show 0 + 1 * j.val = j.val; omega)

/-- The elements slot `k` names. -/
theorem set_slot (k : ℕ) (hk : k < n)
    (h : ∀ x, (![k, 0, 0] : Fin 3 → ℕ) x + (⟨3, ![1, a, b]⟩ : Shape).size x ≤ (⟨3, ![n, a, b]⟩ : Shape).size x)
    (hn : (⟨2, ![a, b]⟩ : Shape).numel = (⟨3, ![1, a, b]⟩ : Shape).numel) :
    ((v.slice (Rect.unit (s := ⟨3, ![n, a, b]⟩) ![k, 0, 0] (⟨3, ![1, a, b]⟩ : Shape).size h)).reshape ⟨2, ![a, b]⟩ hn).set
      = (slab {(⟨k, hk⟩ : Fin n)}).map v.emb := by
  ext y
  simp only [View.set, Finset.mem_map, Finset.mem_univ, true_and]
  constructor
  · rintro ⟨x, rfl⟩
    refine ⟨ix3 (⟨k, hk⟩ : Fin n) (x 0) (x 1), mem_slab.mpr (Finset.mem_singleton_self _), ?_⟩
    exact (emb_slot v k hk h hn (x 0) (x 1)).symm.trans (congrArg _ (eq_ix2 x).symm)
  · rintro ⟨i, hi, rfl⟩
    refine ⟨ix2 (i 1) (i 2), ?_⟩
    rw [emb_slot v k hk h hn (i 1) (i 2)]
    rw [← Finset.mem_singleton.mp (mem_slab.mp hi)]
    exact congrArg v.emb (eq_ix3 i).symm

/-- The elements a run of `l` slots from `o` names. -/
theorem set_run (o l : ℕ)
    (h : ∀ x, (![o, 0, 0] : Fin 3 → ℕ) x + (⟨3, ![l, a, b]⟩ : Shape).size x ≤ (⟨3, ![n, a, b]⟩ : Shape).size x) :
    (Rect.unit (s := ⟨3, ![n, a, b]⟩) ![o, 0, 0] (⟨3, ![l, a, b]⟩ : Shape).size h).set
      = slab (Finset.univ.filter fun i : Fin n => o ≤ i.val ∧ i.val < o + l) := by
  ext i
  rw [Rect.mem_set_unit, mem_slab, Finset.mem_filter]
  show _ ↔ _ ∧ o ≤ (i 0).val ∧ (i 0).val < o + l
  constructor
  · intro hi
    exact ⟨Finset.mem_univ _, hi 0⟩
  · rintro ⟨-, hi⟩ x
    fin_cases x
    · exact hi
    · exact ⟨Nat.zero_le _, by have := (i 1).isLt; show (i 1).val < 0 + a; rw [Nat.zero_add]; exact this⟩
    · exact ⟨Nat.zero_le _, by have := (i 2).isLt; show (i 2).val < 0 + b; rw [Nat.zero_add]; exact this⟩

/-- Where an element of a run of `l` slots from `o`, named by its position within the run, lies in the array. -/
theorem emb_run (o l : ℕ) (hl : o + l ≤ n)
    (h : ∀ x, (![o, 0, 0] : Fin 3 → ℕ) x + (⟨3, ![l, a, b]⟩ : Shape).size x ≤ (⟨3, ![n, a, b]⟩ : Shape).size x)
    (p : Fin l) (i : Fin a) (j : Fin b) :
    (Rect.unit (s := ⟨3, ![n, a, b]⟩) ![o, 0, 0] (⟨3, ![l, a, b]⟩ : Shape).size h).emb (ix3 p i j)
      = ix3 (⟨o + p.val, by omega⟩ : Fin n) i j := by
  funext x
  fin_cases x
  · exact Fin.ext (by show o + 1 * p.val = o + p.val; omega)
  · exact Fin.ext (by show 0 + 1 * i.val = i.val; omega)
  · exact Fin.ext (by show 0 + 1 * j.val = j.val; omega)

end Slab

/-! ## The kernel's four buffers -/

/-- The buffer tokens are sent from; -/
abbrev sM : Memref sig .tc .vmem S16x65x256 .bf16 := Memref.whole cc0_scratch0
/-- the buffer they are received in; -/
abbrev rM : Memref sig .tc .vmem S16x65x256 .bf16 := Memref.whole cc0_scratch1
/-- the buffer the results on them are sent back from; -/
abbrev yM : Memref sig .tc .vmem S16x64x512 .bf16 := Memref.whole cc0_scratch2
/-- the buffer results come back to. -/
abbrev tM : Memref sig .tc .vmem S16x64x512 .bf16 := Memref.whole cc0_scratch3

/-- Slot `k` of one of the two buffers of token slots; -/
abbrev slotA (M : Memref sig .tc .vmem S16x65x256 .bf16) (k : ℕ)
    (h : ∀ x, (![k, 0, 0] : Fin 3 → ℕ) x + S1x65x256.size x ≤ S16x65x256.size x) : Memref sig .tc .vmem S65x256 .bf16 :=
  (M.slice (Rect.unit (s := S16x65x256) ![k, 0, 0] S1x65x256.size h) (fun _ => rfl)).squeeze S65x256 squeezes_S1x65x256_S65x256
/-- slot `k` of one of the two buffers of result slots. -/
abbrev slotB (M : Memref sig .tc .vmem S16x64x512 .bf16) (k : ℕ)
    (h : ∀ x, (![k, 0, 0] : Fin 3 → ℕ) x + S1x64x512.size x ≤ S16x64x512.size x) : Memref sig .tc .vmem S64x512 .bf16 :=
  (M.slice (Rect.unit (s := S16x64x512) ![k, 0, 0] S1x64x512.size h) (fun _ => rfl)).squeeze S64x512 squeezes_S1x64x512_S64x512

/-- Slot `k` lies in a buffer of token slots, -/
theorem inbA (k : ℕ) (hk : k < 16) : ∀ x, (![k, 0, 0] : Fin 3 → ℕ) x + S1x65x256.size x ≤ S16x65x256.size x := by
  intro x; fin_cases x
  · show k + 1 ≤ 16; omega
  · show 0 + 65 ≤ 65; omega
  · show 0 + 256 ≤ 256; omega
/-- and in a buffer of result slots. -/
theorem inbB (k : ℕ) (hk : k < 16) : ∀ x, (![k, 0, 0] : Fin 3 → ℕ) x + S1x64x512.size x ≤ S16x64x512.size x := by
  intro x; fin_cases x
  · show k + 1 ≤ 16; omega
  · show 0 + 64 ≤ 64; omega
  · show 0 + 512 ≤ 512; omega

/-- The image of a set under the identity is the set. -/
theorem map_refl {α : Type} (s : Finset α) : s.map (Function.Embedding.refl α) = s := Finset.map_refl

/-- The elements of slot `k` of the send buffer; -/
theorem set_sSlot (k : ℕ) (hk : k < 16) (h) : (slotA sM k h).view.set = slab {(⟨k, hk⟩ : Fin 16)} :=
  (set_slot (View.whole cc0_scratch0) k hk h _).trans (map_refl _)
/-- of the receive buffer; -/
theorem set_rSlot (k : ℕ) (hk : k < 16) (h) : (slotA rM k h).view.set = slab {(⟨k, hk⟩ : Fin 16)} :=
  (set_slot (View.whole cc0_scratch1) k hk h _).trans (map_refl _)
/-- of the result buffer; -/
theorem set_ySlot (k : ℕ) (hk : k < 16) (h) : (slotB yM k h).view.set = slab {(⟨k, hk⟩ : Fin 16)} :=
  (set_slot (View.whole cc0_scratch2) k hk h _).trans (map_refl _)
/-- of the returned results. -/
theorem set_tSlot (k : ℕ) (hk : k < 16) (h) : (slotB tM k h).view.set = slab {(⟨k, hk⟩ : Fin 16)} :=
  (set_slot (View.whole cc0_scratch3) k hk h _).trans (map_refl _)

section Land
variable {F : FTy → Type}

/-- The contents of a buffer of token slots. -/
abbrev BufA (F : FTy → Type) : Type := S16x65x256.Idx → Elt F .bf16
/-- The contents of a buffer of result slots. -/
abbrev BufB (F : FTy → Type) : Type := S16x64x512.Idx → Elt F .bf16

/-- A copy of slot `k` of the token buffer into slot `l` of another leaves there what slot `k` held. -/
theorem landA (k l : ℕ) (hk : k < 16) (hl : l < 16) (hk' hl') (fd fs : BufA F) (i : S16x65x256.Idx)
    (hi : i ∈ slab {(⟨l, hl⟩ : Fin 16)}) :
    (slotA rM l hl').view.write (Elt F) fd ((slotA sM k hk').view.read (Elt F) fs) Finset.univ i
      = fs (ix3 (⟨k, hk⟩ : Fin 16) (i 1) (i 2)) := by
  have e : i = (slotA rM l hl').view.emb (ix2 (i 1) (i 2)) := by
    refine Eq.trans ?_ (emb_slot (View.whole cc0_scratch1) l hl hl' _ (i 1) (i 2)).symm
    rw [← Finset.mem_singleton.mp (mem_slab.mp hi)]
    exact eq_ix3 i
  conv_lhs => rw [e]
  refine (View.write_emb_of_mem _ _ (Finset.mem_univ _)).trans ?_
  exact congrArg fs (emb_slot (View.whole cc0_scratch0) k hk hk' _ (i 1) (i 2))

/-- A copy of slot `k` of the result buffer into slot `l` of another leaves there what slot `k` held. -/
theorem landB (k l : ℕ) (hk : k < 16) (hl : l < 16) (hk' hl') (fd fs : BufB F) (i : S16x64x512.Idx)
    (hi : i ∈ slab {(⟨l, hl⟩ : Fin 16)}) :
    (slotB tM l hl').view.write (Elt F) fd ((slotB yM k hk').view.read (Elt F) fs) Finset.univ i
      = fs (ix3 (⟨k, hk⟩ : Fin 16) (i 1) (i 2)) := by
  have e : i = (slotB tM l hl').view.emb (ix2 (i 1) (i 2)) := by
    refine Eq.trans ?_ (emb_slot (View.whole cc0_scratch3) l hl hl' _ (i 1) (i 2)).symm
    rw [← Finset.mem_singleton.mp (mem_slab.mp hi)]
    exact eq_ix3 i
  conv_lhs => rw [e]
  refine (View.write_emb_of_mem _ _ (Finset.mem_univ _)).trans ?_
  exact congrArg fs (emb_slot (View.whole cc0_scratch2) k hk hk' _ (i 1) (i 2))

/-- What a store of `w` to a run of `l` slots from `o` leaves in them, for each of the three buffers stored to in part. -/
theorem putA (o l : ℕ) (hl : o + l ≤ 16) (h) (f : BufA F) (w : (⟨3, ![l, 65, 256]⟩ : Shape).Idx → Elt F .bf16)
    (p : Fin l) (i : Fin 65) (j : Fin 256) :
    (rM.access (Rect.unit (s := S16x65x256) ![o, 0, 0] (⟨3, ![l, 65, 256]⟩ : Shape).size h)).write (Elt F) f w Finset.univ
      (ix3 (⟨o + p.val, by omega⟩ : Fin 16) i j) = w (ix3 p i j) := by
  rw [← emb_run o l hl h p i j]
  exact View.write_emb_of_mem (v := (rM.access (Rect.unit (s := S16x65x256) ![o, 0, 0] (⟨3, ![l, 65, 256]⟩ : Shape).size h)))
    f w (Finset.mem_univ (ix3 p i j))
/-- The same of the result buffer, -/
theorem putY (o l : ℕ) (hl : o + l ≤ 16) (h) (f : BufB F) (w : (⟨3, ![l, 64, 512]⟩ : Shape).Idx → Elt F .bf16)
    (p : Fin l) (i : Fin 64) (j : Fin 512) :
    (yM.access (Rect.unit (s := S16x64x512) ![o, 0, 0] (⟨3, ![l, 64, 512]⟩ : Shape).size h)).write (Elt F) f w Finset.univ
      (ix3 (⟨o + p.val, by omega⟩ : Fin 16) i j) = w (ix3 p i j) := by
  rw [← emb_run o l hl h p i j]
  exact View.write_emb_of_mem (v := (yM.access (Rect.unit (s := S16x64x512) ![o, 0, 0] (⟨3, ![l, 64, 512]⟩ : Shape).size h)))
    f w (Finset.mem_univ (ix3 p i j))
/-- and of the returned results. -/
theorem putT (o l : ℕ) (hl : o + l ≤ 16) (h) (f : BufB F) (w : (⟨3, ![l, 64, 512]⟩ : Shape).Idx → Elt F .bf16)
    (p : Fin l) (i : Fin 64) (j : Fin 512) :
    (tM.access (Rect.unit (s := S16x64x512) ![o, 0, 0] (⟨3, ![l, 64, 512]⟩ : Shape).size h)).write (Elt F) f w Finset.univ
      (ix3 (⟨o + p.val, by omega⟩ : Fin 16) i j) = w (ix3 p i j) := by
  rw [← emb_run o l hl h p i j]
  exact View.write_emb_of_mem (v := (tM.access (Rect.unit (s := S16x64x512) ![o, 0, 0] (⟨3, ![l, 64, 512]⟩ : Shape).size h)))
    f w (Finset.mem_univ (ix3 p i j))

end Land

end Cert.MoE
-- ==== Proof.Cont.lean ====
/-
# What each buffer holds on each device, as functions of the launch's memory

Device `c` first fills its send buffer (`SB`), one slot per distance around the mesh. Slot `k` goes to the device `k`
further on, which receives it in its slot `16 - k`; so device `c`'s receive buffer (`RB`) holds in slot `s` what the
device `s` further on sent, and in slot `0` its own. From it `c` computes the results (`YB`), slot by slot again, and
returns each slot the way it came; its returned results (`YR`) stand in the slots its tokens were sent from. The output
block (`outAt`) is computed from those. Every array is a whole-buffer function, so that one name says what a buffer
holds on any part of it.
-/
module

public import proofs.«01_k».proof.Proof.Slot

@[expose] public section

noncomputable section

namespace Cert.MoE

open Cert.KernelIdeal Cert.KernelIdeal.Gen
open Idealize.ShloMosaic
open Idealize.ShloMosaic.TcCoe
open Idealize.ShloMosaic.ValueIdx

/-! ## Around the mesh -/

set_option backward.proofsInPublic true in
/-- The device `n` further on. -/
def dv (c : Dev nD) (n : ℕ) : Dev nD := ⟨(c.val + n) % 16, Nat.mod_lt _ (by decide)⟩

set_option backward.proofsInPublic true in
/-- The slot the receiver of slot `i` keeps it in. -/
def opp (i : Fin 16) : Fin 16 := ⟨(16 - i.val) % 16, Nat.mod_lt _ (by decide)⟩

/-- Going on twice is going on by the sum. -/
theorem dv_dv (c : Dev nD) (n k : ℕ) : dv (dv c n) k = dv c (n + k) :=
  Fin.ext (by show ((c.val + n) % 16 + k) % 16 = (c.val + (n + k)) % 16; omega)
/-- Going on by sixteen leads back. -/
theorem dv_sixteen (c : Dev nD) : dv c 16 = c :=
  Fin.ext (by show (c.val + 16) % 16 = c.val; have : c.val < 16 := c.isLt; omega)
/-- Going on by none stays. -/
theorem dv_zero (c : Dev nD) : dv c 0 = c :=
  Fin.ext (by show (c.val + 0) % 16 = c.val; have : c.val < 16 := c.isLt; omega)
/-- Going on by two numbers that add up to sixteen leads back. -/
theorem dv_back (c : Dev nD) {n k : ℕ} (h : n + k = 16) : dv (dv c n) k = c := by rw [dv_dv, h, dv_sixteen]

section
variable {F : FTy → Type} [FloatOps F] (m : (ℓ : Loc nD τ sig) → Buf (Elt F) ℓ)

/-! ## The staged inputs -/

/-- Device `c`'s tokens, the experts they name, and its two experts' weights, as staged. -/
def xv (c : Dev nD) : Vec F S512x256 .bf16 := (win0_0.blk (0 : Fin 1)).view.read (Elt F) (m ((c : Thread nD τ).loc main_arg0))
/-- The experts its tokens name, as staged. -/
def iv (c : Dev nD) : Vec F S512x1 .i32 := (win0_1.blk (0 : Fin 1)).view.read (Elt F) (m ((c : Thread nD τ).loc main_arg2))
/-- Its two experts' weights, as staged. -/
def wv (c : Dev nD) : Vec F S2x256x512 .bf16 := (win0_2.blk (0 : Fin 1)).view.read (Elt F) (m ((c : Thread nD τ).loc main_arg3))

/-- Device `c`'s number as the kernel computes it. -/
def wd (c : Dev nD) : BitVec 32 := Scalar.remsi (Scalar.divsi (Dev.word c) 1#32) 16#32

/-- Which token goes to which row of the sixteen slots. -/
def perm (c : Dev nD) : FVec F S512x1024 .bf16 :=
  k0_pay6 (wd c) (k0_pay1 (iv m c)) (k0_pay2 (iv m c)) (k0_pay3 (iv m c)) (k0_pay5 (iv m c))

/-- What device `c` sends. -/
def SB (c : Dev nD) : BufA F :=
  k0_pay9 (k0_pay3 (iv m c)) (k0_pay7 (wd c) (k0_pay1 (iv m c)) (k0_pay2 (iv m c)) (k0_pay3 (iv m c)) (k0_pay5 (iv m c)) (xv m c))
    (k0_pay8 (k0_pay3 (iv m c))) (Scalar.ofBits .f32 0x43000000#32)

/-- What device `c` receives. -/
def RB (c : Dev nD) : BufA F := fun i => SB m (dv c (slotOf i).val) (ix3 (opp (slotOf i)) (i 1) (i 2))

/-! ## The results -/

/-- The count rows of a run of slots lie in the buffer; -/
theorem inb_enc (o l : ℕ) (h : o + l ≤ 16) :
    ∀ x, (![o, 64, 0] : Fin 3 → ℕ) x + (⟨3, ![l, 1, 256]⟩ : Shape).size x ≤ S16x65x256.size x := by
  intro x; fin_cases x
  · exact h
  · show 64 + 1 ≤ 65; omega
  · show 0 + 256 ≤ 256; omega
/-- so do the token rows, -/
theorem inb_tok (o l : ℕ) (h : o + l ≤ 16) :
    ∀ x, (![o, 0, 0] : Fin 3 → ℕ) x + (⟨3, ![l, 64, 256]⟩ : Shape).size x ≤ S16x65x256.size x := by
  intro x; fin_cases x
  · exact h
  · show 0 + 64 ≤ 65; omega
  · show 0 + 256 ≤ 256; omega
/-- and the rows of results. -/
theorem inb_res (o l : ℕ) (h : o + l ≤ 16) :
    ∀ x, (![o, 0, 0] : Fin 3 → ℕ) x + (⟨3, ![l, 64, 512]⟩ : Shape).size x ≤ S16x64x512.size x := by
  intro x; fin_cases x
  · exact h
  · show 0 + 64 ≤ 64; omega
  · show 0 + 512 ≤ 512; omega

/-- The count rows of `l` slots of a receive buffer from slot `o`; -/
abbrev encOf (f : BufA F) (o l : ℕ) (h : o + l ≤ 16) : (⟨3, ![l, 1, 256]⟩ : Shape).Idx → Elt F .bf16 :=
  rM.view.readAt (Elt F) (Rect.unit (s := S16x65x256) ![o, 64, 0] (⟨3, ![l, 1, 256]⟩ : Shape).size (inb_enc o l h)).toLoadRect f
/-- their token rows; -/
abbrev tokOf (f : BufA F) (o l : ℕ) (h : o + l ≤ 16) : (⟨3, ![l, 64, 256]⟩ : Shape).Idx → Elt F .bf16 :=
  rM.view.readAt (Elt F) (Rect.unit (s := S16x65x256) ![o, 0, 0] (⟨3, ![l, 64, 256]⟩ : Shape).size (inb_tok o l h)).toLoadRect f
/-- and `l` slots of a buffer of returned results. -/
abbrev resOf (f : BufB F) (o l : ℕ) (h : o + l ≤ 16) : (⟨3, ![l, 64, 512]⟩ : Shape).Idx → Elt F .bf16 :=
  tM.view.readAt (Elt F) (Rect.unit (s := S16x64x512) ![o, 0, 0] (⟨3, ![l, 64, 512]⟩ : Shape).size (inb_res o l h)).toLoadRect f

/-- Which of the 32 experts is device `c`'s first. -/
def firstE (c : Dev nD) : IVec S1x32 1 := k0_pay12 (wd c) (iota .tc S1x32 32 [1] iota_S1x32_d1_w32)

/-- Device `c`'s results on its own tokens; -/
def Y0 (c : Dev nD) : FVec F S1x64x512 .bf16 :=
  k0_pay14 (k0_pay3 (iv m c)) (k0_pay11 (wv m c)) (iota .tc S64x1 32 [0] iota_S64x1_d0_w32) (firstE c) (tokOf (RB m c) 0 1 (by decide))
/-- and on the five slots of received tokens from slot `o`. -/
def YG (o : ℕ) (h : o + 5 ≤ 16) (c : Dev nD) : FVec F S5x64x512 .bf16 :=
  k0_pay19 (k0_pay11 (wv m c)) (k0_pay16 (k0_pay13 (firstE c)) (encOf (RB m c) o 5 h)) k0_pay17 k0_pay18 (tokOf (RB m c) o 5 h)

set_option backward.proofsInPublic true in
/-- The place of slot `n` among the five from slot `o`. -/
def grp (o n : ℕ) : Fin 5 := ⟨(n - o) % 5, Nat.mod_lt _ (by decide)⟩

/-- Device `c`'s results, slot by slot. -/
def YB (c : Dev nD) : BufB F := fun i =>
  if (slotOf i).val < 1 then Y0 m c (ix3 0 (i 1) (i 2))
  else if (slotOf i).val < 6 then YG m 1 (by decide) c (ix3 (grp 1 (slotOf i).val) (i 1) (i 2))
  else if (slotOf i).val < 11 then YG m 6 (by decide) c (ix3 (grp 6 (slotOf i).val) (i 1) (i 2))
  else YG m 11 (by decide) c (ix3 (grp 11 (slotOf i).val) (i 1) (i 2))

/-- The results that come back to device `c`. -/
def YR (c : Dev nD) : BufB F := fun i => YB m (dv c (slotOf i).val) (ix3 (opp (slotOf i)) (i 1) (i 2))

/-- Device `c`'s block of the output. -/
def outAt (c : Dev nD) : FVec F S512x512 .f32 :=
  k0_pay35 (k0_pay2 (iv m c)) (k0_pay4 (iv m c))
    (k0_pay32 (perm m c) (k0_pay31 (perm m c) (k0_pay30 (perm m c) (k0_pay29 (perm m c) (resOf (YR m c) 12 4 (by decide)))
      (resOf (YR m c) 8 4 (by decide))) (resOf (YR m c) 4 4 (by decide))) (resOf (YR m c) 0 4 (by decide)))
    (k0_pay33 (encOf (RB m c) 0 16 (by decide))) (k0_pay34 (wd c))

/-! ## A landed slot, a stored run of slots -/

/-- Slot `k` of what `c` sends lands in slot `l = 16 - k` of the device `k` further on as that device's buffer has it. -/
theorem landed_RB (c : Dev nD) (k l : ℕ) (hk : k < 16) (hl : l < 16) (h : k + l = 16) (hk' hl') (fd : BufA F) (i : S16x65x256.Idx)
    (hi : i ∈ slab {(⟨l, hl⟩ : Fin 16)}) :
    (slotA rM l hl').view.write (Elt F) fd ((slotA sM k hk').view.read (Elt F) (SB m c)) Finset.univ i = RB m (dv c k) i := by
  rw [landA k l hk hl hk' hl' fd _ i hi]
  have e : slotOf i = ⟨l, hl⟩ := Finset.mem_singleton.mp (mem_slab.mp hi)
  unfold RB
  rw [e, dv_back c h]
  have eo : opp (⟨l, hl⟩ : Fin 16) = ⟨k, hk⟩ := Fin.ext (by show (16 - l) % 16 = k; omega)
  rw [eo]

/-- Slot `k` of `c`'s results lands in slot `l = 16 - k` of the device `k` further on as that device's returned results have
    it. -/
theorem landed_YR (c : Dev nD) (k l : ℕ) (hk : k < 16) (hl : l < 16) (h : k + l = 16) (hk' hl') (fd : BufB F) (i : S16x64x512.Idx)
    (hi : i ∈ slab {(⟨l, hl⟩ : Fin 16)}) :
    (slotB tM l hl').view.write (Elt F) fd ((slotB yM k hk').view.read (Elt F) (YB m c)) Finset.univ i = YR m (dv c k) i := by
  rw [landB k l hk hl hk' hl' fd _ i hi]
  have e : slotOf i = ⟨l, hl⟩ := Finset.mem_singleton.mp (mem_slab.mp hi)
  unfold YR
  rw [e, dv_back c h]
  have eo : opp (⟨l, hl⟩ : Fin 16) = ⟨k, hk⟩ := Fin.ext (by show (16 - l) % 16 = k; omega)
  rw [eo]

/-- A slot cast to a matrix and back is itself. -/
theorem pay10_eq (x : Vec F S1x65x256 .bf16) : k0_pay10 x = x := by
  unfold k0_pay10; funext i; simp [shapeCast, Shape.reshapeEquiv_reshapeEquiv]
/-- So is a slot of results. -/
theorem pay15_eq (x : Vec F S1x64x512 .bf16) : k0_pay15 x = x := by
  unfold k0_pay15; funext i; simp [shapeCast, Shape.reshapeEquiv_reshapeEquiv]

/-- The three groups' results are one computation, however its text is cut. -/
theorem pay22_eq (w : FVec F S2x256x512 .bf16) (k : FVec F S1x32 .f32) (e : Vec F S5x1x256 .bf16) (r : Vec F S5x64x256 .bf16) :
    k0_pay22 w (k0_pay20 k e) (k0_pay21 r) = k0_pay19 w (k0_pay16 k e) k0_pay17 k0_pay18 r := rfl
/-- The same of the third group. -/
theorem pay28_eq (w : FVec F S2x256x512 .bf16) (k : FVec F S1x32 .f32) (e : Vec F S5x1x256 .bf16) (r : Vec F S5x64x256 .bf16) :
    k0_pay28 (k0_pay25 w k e r) (k0_pay26 k e r) (k0_pay27 w) = k0_pay19 w (k0_pay16 k e) k0_pay17 k0_pay18 r := rfl

end

end Cert.MoE
-- ==== Proof.Sched.lean ====
/-
# The kernel's protocol as a schedule: who signals which semaphore, and what each signal hands over

Every device has sixty-one semaphores of the protocol: the barrier, and for each of four kinds of transfer end fifteen:
kind `0`, its tokens sent; kind `1`, tokens received; kind `2`, its results sent; kind `3`, results received. All of it is
one round. The barrier has fifteen duties, one for each other device, of one unit each: the device `i + 1` further on
hands over slot `15 - i` of its two receive buffers. Every other semaphore has one duty, of one slot's credit: a sender
gets the slot it sent back, a receiver gets the slot with what was sent to it.

A device that waits must owe only semaphores above the one it waits for: the barrier is at level 1, received tokens at
2, received results at 3, everything else at 0.
-/
module

public import proofs.«01_k».proof.Proof.Cont

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The resource of the schedule's rounds. -/
abbrev UB : Type := URounds (GSem nD τ sig) (Fin 15)
/-- It, beside the resource of the pipeline. -/
abbrev UU : Type := UR sig nD τ × UB

local notation "𝕄" => MT nD τ sig Unit (Elt F) ℕ UU ℕ

/-- Where the pipeline's resource is among all; -/
abbrev EP : Emb (UR sig nD τ) (MT nD τ sig Unit (Elt F) ℕ UU ℕ) := embL
/-- where the rounds' is. -/
abbrev ER : Emb UB (MT nD τ sig Unit (Elt F) ℕ UU ℕ) := embR

variable (m : (ℓ : Loc nD τ sig) → Buf (Elt F) ℓ)

/-! ## The semaphores -/

/-- A device's semaphores of the protocol: `none` the barrier, `some (a, i)` the `i`-th of kind `a`. -/
abbrev Cell : Type := Option (Fin 4 × Fin 15)

/-- The barrier's semaphore. -/
abbrev barS : Sem sig := (SemArray.scalar (sig.barrier 0 rfl) : Sems sig S_).sem

set_option backward.proofsInPublic true in
/-- The `i`-th transfer semaphore of kind `a`. -/
def xsem (a : Fin 4) (i : Fin 15) : DmaSem sig :=
  (⟨4 + 15 * a.val + i.val, by show _ < 64; have := a.isLt; have := i.isLt; omega⟩ : Fin 64)

/-- The semaphore of the machine that a semaphore of the protocol is. -/
abbrev csem : Cell → SemLoc sig
  | none => .reg barS
  | some (a, i) => .dma (xsem a i)

/-- Which of the protocol's semaphores a semaphore is. -/
def who : SemLoc sig → Option Cell
  | .reg s => if s = barS then some none else none
  | .dma q => if 4 ≤ (q : Fin 64).val then
      some (some (⟨((q : Fin 64).val - 4) / 15 % 4, Nat.mod_lt _ (by decide)⟩, ⟨((q : Fin 64).val - 4) % 15, Nat.mod_lt _ (by decide)⟩))
    else none

/-- The number of a transfer semaphore. -/
theorem xsem_val (a : Fin 4) (i : Fin 15) : (xsem a i : Fin 64).val = 4 + 15 * a.val + i.val := rfl

/-- A semaphore of the protocol is known by its number. -/
theorem who_csem (k : Cell) : who (csem k) = some k := by
  rcases k with _ | ⟨a, i⟩
  · rfl
  · have ha := a.isLt; have hi := i.isLt
    show (if 4 ≤ (xsem a i : Fin 64).val then _ else _) = _
    rw [if_pos (by rw [xsem_val]; omega)]
    refine congrArg some (congrArg some (Prod.ext (Fin.ext ?_) (Fin.ext ?_)))
    · show ((xsem a i : Fin 64).val - 4) / 15 % 4 = a.val; rw [xsem_val]; omega
    · show ((xsem a i : Fin 64).val - 4) % 15 = i.val; rw [xsem_val]; omega

/-- Different semaphores of the protocol are different semaphores. -/
theorem csem_inj : Function.Injective csem := fun a b h => Option.some.inj (by rw [← who_csem a, h, who_csem b])

/-- Semaphore `k` of device `c`. -/
abbrev kcell (ck : Dev nD × Cell) : GSem nD τ sig := ((ck.1 : Thread nD τ), csem ck.2)
/-- Device `c`'s barrier semaphore; -/
abbrev bc (c : Dev nD) : GSem nD τ sig := kcell (c, none)
/-- its `i`-th transfer semaphore of kind `a`. -/
abbrev xc (a : Fin 4) (i : Fin 15) (c : Dev nD) : GSem nD τ sig := kcell (c, some (a, i))

/-- The barrier's semaphore is known as such, -/
theorem who_bc (c : Dev nD) : who (bc c).2 = some none := who_csem none
/-- and so is each transfer semaphore. -/
theorem who_xc (a : Fin 4) (i : Fin 15) (c : Dev nD) : who (xc a i c).2 = some (some (a, i)) := who_csem (some (a, i))

/-- Over all devices too they are different. -/
theorem kcell_inj : Function.Injective kcell := fun a b h => by
  have h1 : (a.1 : Thread nD τ) = (b.1 : Thread nD τ) := congrArg Prod.fst h
  have h2 : csem a.2 = csem b.2 := congrArg Prod.snd h
  exact Prod.ext (congrArg (fun t : Thread nD τ => t.1) h1) (csem_inj h2)

/-! ## Credits -/

/-- A slot's credit: of tokens and of results. -/
abbrev NA : ℕ := (slotA sM 0 (inbA 0 (by decide))).view.dmaCredit
/-- A result slot's credit. -/
abbrev NB : ℕ := (slotB yM 0 (inbB 0 (by decide))).view.dmaCredit
/-- A token slot's credit is positive; -/
theorem NA_pos : 0 < NA := View.dmaCredit_pos _ (by decide)
/-- so is a result slot's. -/
theorem NB_pos : 0 < NB := View.dmaCredit_pos _ (by decide)

/-- The credit of a transfer of kind `a`, -/
def NX (a : Fin 4) : ℕ := if a.val < 2 then NA else NB
/-- which is positive. -/
theorem NX_pos (a : Fin 4) : 0 < NX a := by unfold NX; split; exacts [NA_pos, NB_pos]

/-! ## Holding part of a buffer -/

/-- Device `c`'s slots `A` of its four buffers, with the contents of `f`. -/
def sP (c : Dev nD) (A : Finset (Fin 16)) (f : BufA F) : sProp 𝕄 := ((c : Thread nD τ).loc cc0_scratch0) ↦[slab A]{fullShare} f
/-- Its slots `A` of the receive buffer, holding `f`; -/
def rP (c : Dev nD) (A : Finset (Fin 16)) (f : BufA F) : sProp 𝕄 := ((c : Thread nD τ).loc cc0_scratch1) ↦[slab A]{fullShare} f
/-- of the result buffer; -/
def yP (c : Dev nD) (A : Finset (Fin 16)) (f : BufB F) : sProp 𝕄 := ((c : Thread nD τ).loc cc0_scratch2) ↦[slab A]{fullShare} f
/-- of the returned results. -/
def tP (c : Dev nD) (A : Finset (Fin 16)) (f : BufB F) : sProp 𝕄 := ((c : Thread nD τ).loc cc0_scratch3) ↦[slab A]{fullShare} f

/-- The buffer that transfers of kind `a` end in, slots `A`, with its final contents. -/
def buf (a : Fin 4) (c : Dev nD) (A : Finset (Fin 16)) : sProp 𝕄 :=
  match a with
  | 0 => sP c A (SB m c)
  | 1 => rP c A (RB m c)
  | 2 => yP c A (YB m c)
  | 3 => tP c A (YR m c)

omit [FloatOps F] in
/-- Slots of the send buffer may be handed over at a semaphore; -/
instance sP_storable (c : Dev nD) (A) (f) : BI.Storable (upEmb : UEmb _ 𝕄) (sP (F := F) c A f) := by unfold sP; infer_instance
omit [FloatOps F] in
/-- so may those of the receive buffer, -/
instance rP_storable (c : Dev nD) (A) (f) : BI.Storable (upEmb : UEmb _ 𝕄) (rP (F := F) c A f) := by unfold rP; infer_instance
omit [FloatOps F] in
/-- of the result buffer -/
instance yP_storable (c : Dev nD) (A) (f) : BI.Storable (upEmb : UEmb _ 𝕄) (yP (F := F) c A f) := by unfold yP; infer_instance
omit [FloatOps F] in
/-- and of the returned results, -/
instance tP_storable (c : Dev nD) (A) (f) : BI.Storable (upEmb : UEmb _ 𝕄) (tP (F := F) c A f) := by unfold tP; infer_instance
/-- hence those of the buffer of any kind. -/
instance buf_storable (a : Fin 4) (c : Dev nD) (A) : BI.Storable (upEmb : UEmb _ 𝕄) (buf (F := F) m a c A) := by
  unfold buf; split <;> infer_instance

omit [FloatOps F] in
/-- Slots of either of two sets are those of the one beside those of the other: of the send buffer, -/
theorem sP_union (c : Dev nD) {A B : Finset (Fin 16)} (h : Disjoint A B) (f : BufA F) : sP c (A ∪ B) f = iprop(sP c A f ∗ sP c B f) := by
  unfold sP; exact have e := pointsTo_union (ℓ := (c : Thread nD τ).loc cc0_scratch0) (q := fullShare) (f := f) (slab_disjoint h); Idealize.SL.BI.Entails.antisymm (slab_union ▸ e.1) (slab_union ▸ e.2)
omit [FloatOps F] in
/-- of the receive buffer, -/
theorem rP_union (c : Dev nD) {A B : Finset (Fin 16)} (h : Disjoint A B) (f : BufA F) : rP c (A ∪ B) f = iprop(rP c A f ∗ rP c B f) := by
  unfold rP; exact have e := pointsTo_union (ℓ := (c : Thread nD τ).loc cc0_scratch1) (q := fullShare) (f := f) (slab_disjoint h); Idealize.SL.BI.Entails.antisymm (slab_union ▸ e.1) (slab_union ▸ e.2)
omit [FloatOps F] in
/-- of the result buffer, -/
theorem yP_union (c : Dev nD) {A B : Finset (Fin 16)} (h : Disjoint A B) (f : BufB F) : yP c (A ∪ B) f = iprop(yP c A f ∗ yP c B f) := by
  unfold yP; exact have e := pointsTo_union (ℓ := (c : Thread nD τ).loc cc0_scratch2) (q := fullShare) (f := f) (slab_disjoint h); Idealize.SL.BI.Entails.antisymm (slab_union ▸ e.1) (slab_union ▸ e.2)
omit [FloatOps F] in
/-- of the returned results, -/
theorem tP_union (c : Dev nD) {A B : Finset (Fin 16)} (h : Disjoint A B) (f : BufB F) : tP c (A ∪ B) f = iprop(tP c A f ∗ tP c B f) := by
  unfold tP; exact have e := pointsTo_union (ℓ := (c : Thread nD τ).loc cc0_scratch3) (q := fullShare) (f := f) (slab_disjoint h); Idealize.SL.BI.Entails.antisymm (slab_union ▸ e.1) (slab_union ▸ e.2)

/-- of the buffer of any kind. -/
theorem buf_union (a : Fin 4) (c : Dev nD) {A B : Finset (Fin 16)} (h : Disjoint A B) : buf m a c (A ∪ B) = iprop(buf m a c A ∗ buf m a c B) := by
  unfold buf; split
  exacts [sP_union c h _, rP_union c h _, yP_union c h _, tP_union c h _]

/-- One slot more is that slot beside the others. -/
theorem buf_insert (a : Fin 4) (c : Dev nD) {A : Finset (Fin 16)} {s : Fin 16} (h : s ∉ A) : buf m a c (insert s A) = iprop(buf m a c {s} ∗ buf m a c A) := by
  rw [Finset.insert_eq]; exact buf_union m a c (Finset.disjoint_singleton_left.mpr h)

/-! ## The schedule -/

set_option backward.proofsInPublic true in
/-- The slot the `i`-th transfer of kind `a` ends in. -/
def cslot (a : Fin 4) (i : Fin 15) : Fin 16 :=
  if a.val % 2 = 0 then ⟨i.val + 1, by have := i.isLt; omega⟩ else ⟨15 - i.val, by have := i.isLt; omega⟩

/-- Different transfers of a kind end in different slots, -/
theorem cslot_inj (a : Fin 4) : Function.Injective (cslot a) := by revert a; decide
/-- none in slot `0`. -/
theorem cslot_ne_zero (a : Fin 4) (i : Fin 15) : cslot a i ≠ 0 := by revert a i; decide

/-- What the device `i + 1` further on hands to `c` at the barrier. -/
def barPay (c : Dev nD) (i : Fin 15) : sProp 𝕄 :=
  iprop((∃ f : BufA F, rP (dv c (i.val + 1)) {cslot 1 i} f) ∗ (∃ f : BufB F, tP (dv c (i.val + 1)) {cslot 3 i} f))

/-- The schedule: each semaphore has one round. A barrier's has a unit from each other device, which hands over its
    receiving slots; a transfer semaphore's has the transfer's credit, with the slot it ends in. -/
def rd : Rounds.Schedule (GSem nD τ sig) (Fin 15) 𝕄 where
  duties g r := if r = 0 ∧ g.1.2 = .tc then (match who g.2 with | some none => Finset.univ | some (some _) => {0} | none => ∅) else ∅
  unitless _ := False
  amount g _ _ := match who g.2 with | some (some (a, _)) => NX a | _ => 1
  payload g _ d := match who g.2 with
    | some none => barPay g.1.1 d
    | some (some (a, i)) => buf m a g.1.1 {cslot a i}
    | none => iprop(emp)
  amount_pos g _ _ _ := by
    show 0 < (match who g.2 with | some (some (a, _)) => NX a | _ => 1)
    split
    · exact NX_pos _
    · exact Nat.one_pos

omit [FloatOps F] in
/-- What a barrier's unit brings may be handed over. -/
instance barPay_storable (c : Dev nD) (i : Fin 15) : BI.Storable (upEmb : UEmb _ 𝕄) (barPay (F := F) c i) := by
  unfold barPay; infer_instance

/-- So may whatever the schedule hands over. -/
instance rd_payload_storable (g : GSem nD τ sig) (r : ℕ) (d : Fin 15) : BI.Storable (upEmb : UEmb _ 𝕄) ((rd (F := F) m).payload g r d) := by
  show BI.Storable upEmb (match who g.2 with
    | some none => barPay g.1.1 d
    | some (some (a, i)) => buf m a g.1.1 {cslot a i}
    | none => iprop(emp))
  split <;> infer_instance

/-- A barrier has a duty for each other device, -/
theorem duties_bar (c : Dev nD) : (rd (F := F) m).duties (bc c) 0 = Finset.univ := by
  dsimp only [rd]; rw [if_pos ⟨rfl, rfl⟩, who_bc c]
/-- a transfer semaphore has one, -/
theorem duties_x (a : Fin 4) (i : Fin 15) (c : Dev nD) : (rd (F := F) m).duties (xc a i c) 0 = {0} := by
  dsimp only [rd]; rw [if_pos ⟨rfl, rfl⟩, who_xc a i c]
/-- and after the first round there are none. -/
theorem duties_later (g : GSem nD τ sig) : ∀ r, 1 ≤ r → (rd (F := F) m).duties g r = ∅ :=
  fun r hr => by dsimp only [rd]; exact if_neg fun h => by omega
/-- A barrier's duties are of one unit each; -/
theorem amount_bar (c : Dev nD) (d : Fin 15) : (rd (F := F) m).amount (bc c) 0 d = 1 := by
  dsimp only [rd]; rw [who_bc c]
/-- a transfer semaphore's is of the transfer's credit. -/
theorem amount_x (a : Fin 4) (i : Fin 15) (c : Dev nD) (d : Fin 15) : (rd (F := F) m).amount (xc a i c) 0 d = NX a := by
  dsimp only [rd]; rw [who_xc a i c]
/-- What a barrier's duty hands over; -/
theorem payload_bar (c : Dev nD) (d : Fin 15) : (rd (F := F) m).payload (bc c) 0 d = barPay c d := by
  dsimp only [rd]; rw [who_bc c]
/-- what a transfer semaphore's does. -/
theorem payload_x (a : Fin 4) (i : Fin 15) (c : Dev nD) (d : Fin 15) : (rd (F := F) m).payload (xc a i c) 0 d = buf m a c {cslot a i} := by
  dsimp only [rd]; rw [who_xc a i c]
/-- A barrier expects fifteen units; -/
theorem expect_bar (c : Dev nD) : (rd (F := F) m).expect (bc c) 0 = 15 := by
  unfold Schedule.expect Schedule.amountOf
  rw [duties_bar, Finset.sum_congr rfl fun d _ => amount_bar m c d, Finset.sum_const, Finset.card_univ, Fintype.card_fin, smul_eq_mul]
/-- a transfer semaphore the transfer's credit. -/
theorem expect_x (a : Fin 4) (i : Fin 15) (c : Dev nD) : (rd (F := F) m).expect (xc a i c) 0 = NX a := by
  unfold Schedule.expect Schedule.amountOf; rw [duties_x, Finset.sum_singleton, amount_x]
/-- All that a barrier's round hands over; -/
theorem rest_bar (c : Dev nD) : bigSep ((rd (F := F) m).duties (bc c) 0 \ ∅) (fun d => (rd (F := F) m).payload (bc c) 0 d) = bigSep Finset.univ (barPay c) := by
  rw [Finset.sdiff_empty, duties_bar]; exact bigSep_congr fun d _ => payload_bar m c d
/-- all that a transfer semaphore's does. -/
theorem rest_x (a : Fin 4) (i : Fin 15) (c : Dev nD) :
    bigSep ((rd (F := F) m).duties (xc a i c) 0 \ ∅) (fun d => (rd (F := F) m).payload (xc a i c) 0 d) = buf m a c {cslot a i} := by
  rw [Finset.sdiff_empty, duties_x, bigSep_singleton, payload_x]

/-! ## What a device owes -/

/-- The signals, token transfers and result transfers device `c` has still to make. -/
def owed (c : Dev nD) (T₁ T₂ T₃ : Finset (Fin 15)) : CellTallies nD τ sig Unit :=
  (∑ i ∈ T₃, tallyAt (xc 3 i (dv c (i.val + 1))) () (NX 3) + ∑ i ∈ T₂, tallyAt (xc 1 i (dv c (i.val + 1))) () (NX 1))
    + ∑ i ∈ T₁, tallyAt (bc (dv c (i.val + 1))) () 1

/-- Nothing left to do is nothing owed. -/
theorem owed_none (c : Dev nD) : owed c ∅ ∅ ∅ = 0 := by unfold owed; simp

/-- Three terms in another order; -/
theorem shuffle₁ {A : Type} [AddCommMonoid A] (p q r : A) : p + (q + r) = p + r + q := by rw [add_comm q, add_assoc]
/-- four; -/
theorem shuffle₂ {A : Type} [AddCommMonoid A] (p q r t : A) : p + (q + r) + t = p + r + t + q := by
  rw [shuffle₁, add_assoc, add_comm q, ← add_assoc]
/-- four in yet another. -/
theorem shuffle₃ {A : Type} [AddCommMonoid A] (p q r t : A) : p + q + r + t = q + r + t + p := by
  rw [add_assoc, add_assoc, add_comm p, add_assoc q, add_assoc q, add_assoc q]

/-- One signal more to make is one unit more owed; -/
theorem owed_insert₁ (c : Dev nD) {T₁ : Finset (Fin 15)} {i : Fin 15} (h : i ∉ T₁) (T₂ T₃) :
    owed c (insert i T₁) T₂ T₃ = owed c T₁ T₂ T₃ + tallyAt (bc (dv c (i.val + 1))) () 1 := by
  unfold owed; rw [Finset.sum_insert h]; exact shuffle₁ _ _ _
/-- one token transfer more is its credit; -/
theorem owed_insert₂ (c : Dev nD) {T₂ : Finset (Fin 15)} {i : Fin 15} (h : i ∉ T₂) (T₁ T₃) :
    owed c T₁ (insert i T₂) T₃ = owed c T₁ T₂ T₃ + tallyAt (xc 1 i (dv c (i.val + 1))) () (NX 1) := by
  unfold owed; rw [Finset.sum_insert h]; exact shuffle₂ _ _ _ _
/-- so is one result transfer more. -/
theorem owed_insert₃ (c : Dev nD) {T₃ : Finset (Fin 15)} {i : Fin 15} (h : i ∉ T₃) (T₁ T₂) :
    owed c T₁ T₂ (insert i T₃) = owed c T₁ T₂ T₃ + tallyAt (xc 3 i (dv c (i.val + 1))) () (NX 3) := by
  unfold owed; rw [Finset.sum_insert h]; exact shuffle₃ _ _ _ _

/-- Each semaphore of a device's core has one level, -/
def L (g : GSem nD τ sig) : Finset Unit := if g.1.2 = .tc then {()} else ∅
/-- which of the protocol's is: for the barrier one, for arrivals of tokens two, for arrivals of results three, for the
    departures none. -/
def lvk : Option Cell → ℕ
  | some none => 1
  | some (some (a, _)) => if a = 1 then 2 else if a = 3 then 3 else 0
  | none => 0
/-- The level of a semaphore of the machine. -/
def lv (g : GSem nD τ sig) (_ : Unit) : ℕ := lvk (who g.2)

/-- No other thread's semaphore has a level; -/
theorem L_of_ne (g : GSem nD τ sig) (h : g.1.2 ≠ .tc) : L g = ∅ := if_neg h
/-- a core's has one, -/
theorem L_tc (c : Dev nD) (sm : SemLoc sig) : L ((c : Thread nD τ), sm) = {()} := if_pos rfl
/-- and for the protocol's it is as the table says. -/
theorem lv_kcell (c : Dev nD) (k : Cell) (u : Unit) : lv (kcell (c, k)) u = lvk (some k) := by
  unfold lv kcell; rw [who_csem]

/-- Where a sum of debts on semaphores is positive, the semaphore is one of them. -/
theorem tally_sum_pos {T : Finset (Fin 15)} {g : Fin 15 → GSem nD τ sig} {N : ℕ} {g' : GSem nD τ sig} {u : Unit}
    (h : 0 < (∑ i ∈ T, tallyAt (g i) () N : CellTallies nD τ sig Unit) g' u) : ∃ i ∈ T, g' = g i := by
  induction T using Finset.induction_on with
  | empty => rw [Finset.sum_empty] at h; exact absurd h (Nat.lt_irrefl 0)
  | insert a T ha ih =>
    rw [Finset.sum_insert ha, Pi.add_apply, Finsupp.add_apply, tallyAt_apply] at h
    by_cases hg : g' = g a
    · exact ⟨a, Finset.mem_insert_self _ _, hg⟩
    · rw [if_neg (fun h' => hg h'.1), zero_add] at h
      obtain ⟨i, hi, e⟩ := ih h
      exact ⟨i, Finset.mem_insert_of_mem hi, e⟩

/-- What a device owes lies on the barriers, the received tokens' and the received results' semaphores of others. -/
theorem owed_pos {c : Dev nD} {T₁ T₂ T₃ : Finset (Fin 15)} {g : GSem nD τ sig} {u : Unit} (h : 0 < owed c T₁ T₂ T₃ g u) :
    (T₁.Nonempty ∧ ∃ d, g = bc d) ∨ (T₂.Nonempty ∧ ∃ d i, g = xc 1 i d) ∨ ∃ d i, g = xc 3 i d := by
  unfold owed at h
  rw [Pi.add_apply, Finsupp.add_apply, Pi.add_apply, Finsupp.add_apply] at h
  by_cases h3 : 0 < (∑ i ∈ T₃, tallyAt (xc 3 i (dv c (i.val + 1))) () (NX 3) : CellTallies nD τ sig Unit) g u
  · obtain ⟨i, _, e⟩ := tally_sum_pos h3
    exact .inr (.inr ⟨_, i, e⟩)
  by_cases h2 : 0 < (∑ i ∈ T₂, tallyAt (xc 1 i (dv c (i.val + 1))) () (NX 1) : CellTallies nD τ sig Unit) g u
  · obtain ⟨i, hi, e⟩ := tally_sum_pos h2
    exact .inr (.inl ⟨⟨i, hi⟩, _, i, e⟩)
  · obtain ⟨i, hi, e⟩ := tally_sum_pos (show 0 < (∑ i ∈ T₁, tallyAt (bc (dv c (i.val + 1))) () 1 : CellTallies nD τ sig Unit) g u by omega)
    exact .inl ⟨⟨i, hi⟩, _, e⟩

/-- A wait on a semaphore that lies below all that is owed. -/
theorem mayWait_below (c : Dev nD) (sm : SemLoc sig) (n : ℕ) (hn : lvk (who sm) ≤ n) (T₁ T₂ T₃ : Finset (Fin 15)) (h1 : T₁.Nonempty → n < 1)
    (h2 : T₂.Nonempty → n < 2) (h3 : n < 3) :
    (levAts L lv : sProp 𝕄) ⊢ MayWait (c : Thread nD τ) sm () (owed c T₁ T₂ T₃) :=
  MayOwe.of_cut (L := L) (lev := lv) n (fun p hp => by rw [Finset.mem_singleton.mp hp, L_tc]; exact Finset.mem_singleton_self _)
    (fun g u hg => by
      rcases owed_pos hg with ⟨_, d, rfl⟩ | ⟨_, d, i, rfl⟩ | ⟨d, i, rfl⟩ <;> exact Finset.mem_singleton_self _)
    (fun p hp => by rw [Finset.mem_singleton.mp hp]; exact hn)
    (fun g u hg => by
      rcases owed_pos hg with ⟨h, d, rfl⟩ | ⟨h, d, i, rfl⟩ | ⟨d, i, rfl⟩ <;> rw [lv_kcell]
      exacts [h1 h, h2 h, h3])

end Cert.MoE
-- ==== Proof.Steps.lean ====
/-
# One rule per kind of step of the kernel

The kernel makes the same few steps fifteen times each: signal a device, send a slot, wait for one. What device `c` holds
before and after the `n`-th step of a kind is one predicate of `n`, and each rule here takes it from `n` to `n + 1`.
-/
module

public import proofs.«01_k».proof.Proof.Sched

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- No loop variants are needed. -/
abbrev 𝒱₀ : Variants := Variants.none

/-! ## Counting through the fifteen -/

/-- The steps from the `n`-th on, and those before it. -/
def up (n : ℕ) : Finset (Fin 15) := Finset.univ.filter fun i => n ≤ i.val
/-- The steps before the `n`-th. -/
def dn (n : ℕ) : Finset (Fin 15) := Finset.univ.filter fun i => i.val < n

/-- The steps from the `n`-th on are the `n`-th and those from the next on, -/
theorem up_step {n : ℕ} (h : n < 15) : up n = insert ⟨n, h⟩ (up (n + 1)) := by
  ext i; simp only [up, Finset.mem_insert, Finset.mem_filter, Finset.mem_univ, true_and, Fin.ext_iff]; omega
/-- of which it is not one. -/
theorem up_not {n : ℕ} (h : n < 15) : (⟨n, h⟩ : Fin 15) ∉ up (n + 1) := by
  simp only [up, Finset.mem_filter, Finset.mem_univ, true_and]; omega
/-- The steps before the next are the `n`-th and those before it, -/
theorem dn_step {n : ℕ} (h : n < 15) : dn (n + 1) = insert ⟨n, h⟩ (dn n) := by
  ext i; simp only [dn, Finset.mem_insert, Finset.mem_filter, Finset.mem_univ, true_and, Fin.ext_iff]; omega
/-- of which it is not one. -/
theorem dn_not {n : ℕ} (h : n < 15) : (⟨n, h⟩ : Fin 15) ∉ dn n := by
  simp only [dn, Finset.mem_filter, Finset.mem_univ, true_and]; omega
/-- From the first on are all the steps; -/
theorem up_zero : up 0 = Finset.univ := by decide
/-- before it there are none. -/
theorem dn_zero : dn 0 = ∅ := by decide
/-- From the fifteenth on there are none; -/
theorem up_all : up 15 = ∅ := by decide
/-- before it are all. -/
theorem dn_all : dn 15 = Finset.univ := by decide

omit [FloatOps F] in
/-- What is held for the steps from the `n`-th on, the `n`-th apart; -/
theorem bigSep_up (Φ : Fin 15 → sProp 𝕄) {n : ℕ} (h : n < 15) : bigSep (up n) Φ = iprop(Φ ⟨n, h⟩ ∗ bigSep (up (n + 1)) Φ) := by
  rw [up_step h, bigSep_insert (up_not h)]; rfl
omit [FloatOps F] in
/-- what is held for those before the next. -/
theorem bigSep_dn (Φ : Fin 15 → sProp 𝕄) {n : ℕ} (h : n < 15) : bigSep (dn (n + 1)) Φ = iprop(Φ ⟨n, h⟩ ∗ bigSep (dn n) Φ) := by
  rw [dn_step h, bigSep_insert (dn_not h)]; rfl

/-- The slots from `a` to before `b`. -/
def rg (a b : ℕ) : Finset (Fin 16) := Finset.univ.filter fun i => a ≤ i.val ∧ i.val < b

/-- A run of slots is its first and the others, -/
theorem rg_step {a b : ℕ} (h : a < b) (ha : a < 16) : rg a b = {⟨a, ha⟩} ∪ rg (a + 1) b := by
  ext i; simp only [rg, Finset.mem_union, Finset.mem_singleton, Finset.mem_filter, Finset.mem_univ, true_and, Fin.ext_iff]; omega
/-- of which the first is not one. -/
theorem rg_disj {a b : ℕ} (ha : a < 16) : Disjoint {(⟨a, ha⟩ : Fin 16)} (rg (a + 1) b) := by
  rw [Finset.disjoint_singleton_left]; simp only [rg, Finset.mem_filter, Finset.mem_univ, true_and]; omega

/-! ## What everybody knows -/

/-- Every semaphore's invariant, under the names `K`, and that every semaphore is at its one round. -/
def records (K : Dev nD × Cell → ℕ) : sProp 𝕄 :=
  bigSep Finset.univ fun ck : Dev nD × Cell => iprop(cellInv ER (rd m) (K ck) (kcell ck) ∗ reached ER (kcell ck) 0)

/-- These facts stay. -/
instance records_persistent (K : Dev nD × Cell → ℕ) : BI.Persistent (records m K) := by unfold records; infer_instance

/-- Of them, one semaphore's invariant; -/
theorem records_inv (K : Dev nD × Cell → ℕ) (ck : Dev nD × Cell) : records m K ⊢ cellInv ER (rd m) (K ck) (kcell ck) := by
  exact (show records m K ⊢ _ from bigSep_elim (Finset.mem_univ ck)).trans sep_elim_left
/-- and that it is at its round. -/
theorem records_reached (K : Dev nD × Cell → ℕ) (ck : Dev nD × Cell) : records m K ⊢ reached ER (kcell ck) 0 := by
  exact (show records m K ⊢ _ from bigSep_elim (Finset.mem_univ ck)).trans sep_elim_right

/-- Device `c` owes the steps from the `n₁`-th signal, `n₂`-th token and `n₃`-th result transfer on. -/
def Owe (c : Dev nD) (n₁ n₂ n₃ : ℕ) : sProp 𝕄 := iprop(∃ W, owes (c : Thread nD τ) (owed c (up n₁) (up n₂) (up n₃)) W)

section
variable (K : Dev nD × Cell → ℕ)
variable {Q : PUnit → sProp 𝕄}

/-! ## The signals -/

/-- What device `c` holds for its signals from the `n`-th on. -/
def Sig (c : Dev nD) (n : ℕ) : sProp 𝕄 :=
  bigSep (up n) fun i => iprop(dutyTok ER (bc (dv c (i.val + 1))) 0 i.rev
    ∗ (∃ f : BufA F, rP c {cslot 0 i} f) ∗ (∃ f : BufB F, tP c {cslot 0 i} f))

omit [FloatOps F] in
/-- What device `c` hands over with its `i`-th signal: its slots that the device signalled will fill. -/
theorem barPay_back (c : Dev nD) (i : Fin 15) :
    barPay (F := F) (dv c (i.val + 1)) i.rev = iprop((∃ f : BufA F, rP c {cslot 0 i} f) ∗ (∃ f : BufB F, tP c {cslot 0 i} f)) := by
  unfold barPay
  rw [dv_back c (show i.val + 1 + (i.rev.val + 1) = 16 by rw [Fin.val_rev]; omega)]
  rw [show cslot 1 i.rev = cslot 0 i by revert i; decide, show cslot 3 i.rev = cslot 0 i by revert i; decide]

/-- The `n`-th signal: it pays a unit of the other device's barrier and gives away the two slots which that device will fill. -/
theorem step_signal (c e : Dev nD) (n : ℕ) (hn : n < 15) (he : e = dv c (n + 1)) (n₂ n₃ : ℕ) {α : Type} {Q : α → sProp 𝕄}
    {k : PUnit → Prog (TpuEff nD τ sig (Elt F) Λ₀ .tc) α} :
    iprop(records m K ∗ Owe c n n₂ n₃ ∗ Sig c n)
      ⊢ iprop(((Owe c (n + 1) n₂ n₃ ∗ Sig c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (e : Thread nD τ) barS (1#32).toInt) k) Q) := by
  subst he
  unfold Owe Sig
  rw [bigSep_up _ hn]
  iintro ⟨#HR, ⟨%W, HO⟩, ⟨Ht, Hpay⟩, Hrest⟩ Hk
  iapply (Rounds.wp_signal 𝒱₀ ER (rd m) (c : Thread nD τ) none (dst := (dv c (n + 1) : Thread nD τ)) (κ := K (dv c (n + 1), none))
      (d := (⟨n, hn⟩ : Fin 15).rev) (by show _ ∈ (rd m).duties (bc (dv c (n + 1))) 0; rw [duties_bar]; exact Finset.mem_univ _)
      ((amount_bar m (dv c (n + 1)) _).trans (by decide)) () (O₀ := owed c (up n) (up n₂) (up n₃)) (owed c (up (n + 1)) (up n₂) (up n₃))
      (by rw [up_step hn]; exact owed_insert₁ c (up_not hn) _ _))
    $$ [HO Ht Hpay]
  · isplitr; · iapply (records_inv m K (dv c (n + 1), none)); iexact HR
    isplitl [HO]; · iexact HO
    isplitl [Ht]; · iexact Ht
    isplitl [Hpay]
    · iapply (Entails.of_eq ((payload_bar m (dv c (n + 1)) (⟨n, hn⟩ : Fin 15).rev).trans (barPay_back c ⟨n, hn⟩)).symm); iexact Hpay
    iapply (records_reached m K (dv c (n + 1), none)); iexact HR
  iintro HO
  iapply Hk
  isplitl [HO]; · iexists W; iexact HO
  iexact Hrest

/-! ## The barrier -/

/-- The wait at the barrier: it brings the slots of all other devices that this one will fill. -/
theorem step_bar (c : Dev nD) {α : Type} {Q : α → sProp 𝕄} {k : PUnit → Prog (TpuEff nD τ sig (Elt F) Λ₀ .tc) α} :
    iprop(records m K ∗ levAts L lv ∗ Owe c 15 0 0 ∗ cred (tallyAt (bc c) () 15) ∗ atPos ER (bc c) 0 ∅ 0)
      ⊢ iprop(((Owe c 15 0 0 ∗ semVal (bc c) 0 ∗ bigSep Finset.univ (barPay c)) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (15#32).toInt) k) Q) := by
  unfold Owe
  iintro ⟨#HR, #Hlev, ⟨%W, HO⟩, Hc, Hat⟩ Hk
  iapply (Rounds.wp_wait_rest_token 𝒱₀ ER (rd m) (c : Thread nD τ) none (κ := K (c, none))
      (wpE_semWait_eq 𝒱₀ (c : Thread nD τ) none Set.univ) (Set.mem_univ _) () (O := owed c (up 15) (up 0) (up 0)) (W := W) (R := 0) (m := 0) (T := ∅)
      (by show _ = (rd m).expect (bc c) 0; rw [expect_bar]; decide)) $$ [Hc HO Hat]
  · isplitr; · iapply (records_inv m K (c, none)); iexact HR
    isplitl [Hc]; · iexact Hc
    isplitl [HO]; · iexact HO
    isplitr
    · iapply (mayWait_below c (.reg barS) 1 (by show lvk (who (csem none)) ≤ 1; rw [who_csem]; decide) (up 15) (up 0) (up 0)
        (by rw [up_all]; exact fun h => absurd h Finset.not_nonempty_empty) (fun _ => by decide) (by decide))
      iexact Hlev
    iexact Hat
  iintro ⟨HO, Hat, -, Hpay⟩
  ihave Hp := (Entails.of_eq (rest_bar m c)) $$ Hpay
  imod (Rounds.cell_close ER (rd m) (Set.mem_univ (K (c, none))) (fun h => h) (R := 0 + 1) (duties_later m (bc c))) $$ [Hat] with Hz
  · isplitr; · iapply (records_inv m K (c, none)); iexact HR
    iexact Hat
  iapply Hk
  isplitl [HO]; · iexists _; iexact HO
  isplitl [Hz]; · iexact Hz
  iexact Hp

/-! ## Waiting for a transfer -/

/-- The slots of the buffer of kind `a` that device `c` has after the first `n` waits, made in the order `ord`: the slots
    waited for, and slot `0`, which stays on the device. -/
def got (a : Fin 4) (ord : Fin 15 → Fin 15) (n : ℕ) : Finset (Fin 16) := insert 0 ((dn n).image fun i => cslot a (ord i))

/-- What device `c` holds before the `n`-th wait of kind `a`. -/
def Wt (a : Fin 4) (ord : Fin 15 → Fin 15) (c : Dev nD) (n : ℕ) : sProp 𝕄 :=
  iprop((bigSep (up n) fun i => iprop(cred (tallyAt (xc a (ord i) c) () (NX a)) ∗ atPos ER (xc a (ord i) c) 0 ∅ 0))
    ∗ (bigSep (dn n) fun i => semVal (xc a (ord i) c) 0)
    ∗ buf m a c (got a ord n))

/-- One wait more adds its slot, -/
theorem got_step (a : Fin 4) {ord : Fin 15 → Fin 15} (n : ℕ) (hn : n < 15) :
    got a ord (n + 1) = insert (cslot a (ord ⟨n, hn⟩)) (got a ord n) := by
  unfold got; rw [dn_step hn, Finset.image_insert, Finset.insert_comm]
/-- which was not there before. -/
theorem got_not (a : Fin 4) {ord : Fin 15 → Fin 15} (hord : Function.Injective ord) (n : ℕ) (hn : n < 15) :
    cslot a (ord ⟨n, hn⟩) ∉ got a ord n := by
  unfold got
  rw [Finset.mem_insert, not_or]
  refine ⟨cslot_ne_zero a _, fun h => ?_⟩
  obtain ⟨i, hi, e⟩ := Finset.mem_image.mp h
  rw [hord (cslot_inj a e)] at hi
  exact dn_not hn hi

/-- A transfer semaphore other than a result's arrival has level two at most. -/
theorem lvk_x (a : Fin 4) (i : Fin 15) (h : a ≠ 3) : lvk (some (some (a, i))) ≤ 2 := by
  show (if a = 1 then 2 else if a = 3 then 3 else 0) ≤ 2
  rw [if_neg h]; split <;> decide

/-- The `n`-th wait of kind `a`: it brings the slot that the transfer ended in. -/
theorem step_wait (a : Fin 4) {ord : Fin 15 → Fin 15} (hord : Function.Injective ord) (c : Dev nD) (n : ℕ) (hn : n < 15) (n₃ : ℕ)
    (hO : a ≠ 3 ∨ up n₃ = ∅) {sm : DmaSem sig} (hs : sm = xsem a (ord ⟨n, hn⟩)) {s s' : Shape} {e e' : EltTy} {κ' : Kind}
    {src : Memref sig .tc .vmem s' e'} {dst : Memref sig κ' .vmem s e} {hsrc : src.view.WordExact} {hdst : dst.view.WordExact}
    (hd : dst.view.dmaCredit = NX a) {α : Type} {Q : α → sProp 𝕄} {k : PUnit → Prog (TpuEff nD τ sig (Elt F) Λ₀ .tc) α} :
    iprop(records m K ∗ levAts L lv ∗ Owe c 15 15 n₃ ∗ Wt m a ord c n)
      ⊢ iprop(((Owe c 15 15 n₃ ∗ Wt m a ord c (n + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst hsrc hdst) k) Q) := by
  subst hs
  unfold Owe Wt
  rw [bigSep_up _ hn, bigSep_dn _ hn, got_step a n hn, buf_insert m a c (got_not a hord n hn), ← hd]
  iintro ⟨#HR, #Hlev, ⟨%W, HO⟩, ⟨⟨Hc, Hat⟩, Hrest⟩, Hz, Hb⟩ Hk
  iapply (Rounds.wp_wait_rest_token 𝒱₀ ER (rd m) (c : Thread nD τ) none (κ := K (c, some (a, ord ⟨n, hn⟩)))
      (wpE_waitDma2_eq 𝒱₀ (c : Thread nD τ) none Set.univ) (Set.mem_univ _) () (O := owed c (up 15) (up 15) (up n₃)) (W := W) (R := 0) (m := 0) (T := ∅)
      (by show _ = (rd m).expect (xc a (ord ⟨n, hn⟩) c) 0; rw [expect_x, Nat.zero_add, hd])) $$ [Hc HO Hat]
  · isplitr; · iapply (records_inv m K (c, some (a, ord ⟨n, hn⟩))); iexact HR
    isplitl [Hc]; · iexact Hc
    isplitl [HO]; · iexact HO
    isplitr
    · by_cases h3 : up n₃ = ∅
      · rw [up_all, h3, owed_none, MayWait_zero]; iempintro
      · iapply (mayWait_below c (csem (some (a, ord ⟨n, hn⟩))) 2 (by rw [who_csem]; exact lvk_x a _ (hO.resolve_right h3)) (up 15) (up 15) (up n₃)
          (by rw [up_all]; exact fun h => absurd h Finset.not_nonempty_empty) (by rw [up_all]; exact fun h => absurd h Finset.not_nonempty_empty) (by decide))
        iexact Hlev
    iexact Hat
  iintro ⟨HO, Hat, -, Hpay⟩
  ihave Hp := (Entails.of_eq (rest_x m a (ord ⟨n, hn⟩) c)) $$ Hpay
  imod (Rounds.cell_close ER (rd m) (Set.mem_univ (K (c, some (a, ord ⟨n, hn⟩)))) (fun h => h) (R := 0 + 1) (duties_later m (xc a (ord ⟨n, hn⟩) c))) $$ [Hat] with Hz'
  · isplitr; · iapply (records_inv m K (c, some (a, ord ⟨n, hn⟩))); iexact HR
    iexact Hat
  iapply Hk
  isplitl [HO]; · iexists _; iexact HO
  isplitl [Hrest]; · iexact Hrest
  isplitl [Hz Hz']
  · isplitl [Hz']; · iexact Hz'
    iexact Hz
  isplitl [Hp]; · iexact Hp
  iexact Hb

/-! ## Sending tokens and results -/

/-- What device `c` holds before its `n`-th token transfer; -/
def Snd (c : Dev nD) (n : ℕ) : sProp 𝕄 :=
  iprop((bigSep (up n) fun i => iprop(dutyTok ER (xc 0 i c) 0 0 ∗ dutyTok ER (xc 1 i (dv c (i.val + 1))) 0 0
      ∗ (∃ f : BufA F, rP (dv c (i.val + 1)) {cslot 1 i} f) ∗ sP c {cslot 0 i} (SB m c)))
    ∗ bigSep (dn n) fun i => cred (tallyAt (xc 0 i c) () (NX 0)))

/-- and before its `n`-th result transfer, beside the results. -/
def Ret (c : Dev nD) (n : ℕ) : sProp 𝕄 :=
  iprop((bigSep (up n) fun i => iprop(dutyTok ER (xc 2 i c) 0 0 ∗ dutyTok ER (xc 3 i (dv c (i.val + 1))) 0 0
      ∗ (∃ f : BufB F, tP (dv c (i.val + 1)) {cslot 3 i} f)))
    ∗ bigSep (dn n) fun i => cred (tallyAt (xc 2 i c) () (NX 2)))

/-- The slot that a departing transfer leaves; -/
theorem slot_sent {a : Fin 4} (ha : a.val % 2 = 0) {n j : ℕ} (hn : n < 15) (hj : j = n + 1) (hj' : j < 16) : (⟨j, hj'⟩ : Fin 16) = cslot a ⟨n, hn⟩ := by
  unfold cslot; rw [if_pos ha]; exact Fin.ext hj
/-- the slot that it fills. -/
theorem slot_got {a : Fin 4} (ha : ¬a.val % 2 = 0) {n j l : ℕ} (hn : n < 15) (hj : j = n + 1) (hl : j + l = 16) (hl' : l < 16) :
    (⟨l, hl'⟩ : Fin 16) = cslot a ⟨n, hn⟩ := by
  unfold cslot; rw [if_neg ha]; exact Fin.ext (by show l = 15 - n; omega)

/-- The sent slot, as the send buffer's; -/
theorem sent_back (c : Dev nD) (n j : ℕ) (hn : n < 15) (hj : j = n + 1) (hk : j < 16) (hk') :
    ((slotA sM j hk').view.loc (c : Thread nD τ) ↦[(slotA sM j hk').view.set]{fullShare} SB m c : sProp 𝕄) = buf m 0 c {cslot 0 ⟨n, hn⟩} := by
  rw [← slot_sent (a := 0) rfl hn hj hk, set_sSlot j hk hk']; rfl

/-- as the other device's receive buffer has it. -/
theorem sent_there (c : Dev nD) (n j l : ℕ) (hn : n < 15) (hj : j = n + 1) (hl : j + l = 16) (hk : j < 16) (hl16 : l < 16) (hk' hl') (fd : BufA F) :
    ((slotA rM l hl').view.loc (dv c (n + 1) : Thread nD τ) ↦[(slotA rM l hl').view.set]{fullShare}
      ((slotA rM l hl').view.write (Elt F) fd ((slotA sM j hk').view.read (Elt F) (SB m c)) Finset.univ) : sProp 𝕄)
      = buf m 1 (dv c (n + 1)) {cslot 1 ⟨n, hn⟩} := by
  subst hj
  rw [← slot_got (a := 1) (by decide) hn rfl hl hl16, set_rSlot l hl16 hl']
  exact pointsTo_congr fun i hi => landed_RB m c (n + 1) l hk hl16 hl hk' hl' fd i hi

/-- Every slot of tokens sent has the same credit, -/
theorem creditA_s (k : ℕ) (h) : (slotA sM k h).view.dmaCredit = NA := rfl
/-- as has every slot of tokens received; -/
theorem creditA_r (k : ℕ) (h) : (slotA rM k h).view.dmaCredit = NA := rfl
/-- likewise of results sent back -/
theorem creditB_y (k : ℕ) (h) : (slotB yM k h).view.dmaCredit = NB := rfl
/-- and returned. -/
theorem creditB_t (k : ℕ) (h) : (slotB tM k h).view.dmaCredit = NB := rfl

/-- The `n`-th token transfer: it takes the slot of the send buffer and the other device's receiving slot, and pays the
    arrival there and the departure here. -/
theorem step_send (c e : Dev nD) (n j l : ℕ) (hn : n < 15) (hj : j = n + 1) (hl : j + l = 16) (he : e = dv c (n + 1)) (n₃ : ℕ) {sS sR : DmaSem sig}
    (hS : sS = xsem 0 ⟨n, hn⟩) (hR : sR = xsem 1 ⟨n, hn⟩) {hk' hl'}
    {hsc : (slotA rM l hl' : Memref sig (Dev.tc e : Thread nD τ).2.kind .vmem S65x256 .bf16).view.ref.isScScratch = false}
    {hsrc : (slotA sM j hk').view.WordExact} {hdst : (slotA rM l hl').view.WordExact}
    {hsem : DmaTarget.Typed .vmem (.dma sR) (.remote (Dev.tc e : Thread nD τ) (slotA rM l hl') (.dma sS) hsc)}
    {α : Type} {Q : α → sProp 𝕄} {k : PUnit → Prog (TpuEff nD τ sig (Elt F) Λ₀ .tc) α} :
    iprop(records m K ∗ Owe c 15 n n₃ ∗ Snd m c n)
      ⊢ iprop(((Owe c 15 (n + 1) n₃ ∗ Snd m c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotA sM j hk') (.remote (Dev.tc e : Thread nD τ) (slotA rM l hl') (.dma sS) hsc) (.dma sR) hsrc hdst hsem) k) Q) := by
  subst he hS hR
  have hk16 : j < 16 := by omega
  have hl16 : l < 16 := by omega
  unfold Owe Snd
  rw [bigSep_up _ hn, bigSep_dn _ hn, ← slot_sent (a := 0) rfl hn hj hk16, ← slot_got (a := 1) (by decide) hn hj hl hl16]
  unfold rP sP
  rw [← set_sSlot j hk16 hk', ← set_rSlot l hl16 hl']
  iintro ⟨#HR, ⟨%W, HO⟩, ⟨⟨Ht, Ht', ⟨%fd, Hd⟩, Hs⟩, Hrest⟩, Hc⟩ Hk
  iapply (Rounds.wp_send_pointsTo 𝒱₀ ER (rd m) (c : Thread nD τ) none (c' := (dv c (n + 1) : Thread nD τ)) (src := slotA sM j hk') (dst := slotA rM l hl')
    (sS := .dma (xsem 0 ⟨n, hn⟩)) (sem := .dma (xsem 1 ⟨n, hn⟩)) (hsc := hsc) (hsrc := hsrc) (hdst := hdst) (hsem := hsem) (κ₁ := K (c, some (0, ⟨n, hn⟩))) (κ₂ := K (dv c (n + 1), some (1, ⟨n, hn⟩)))
    (r₁ := 0) (r₂ := 0) (d₁ := 0) (d₂ := 0) (fs := SB m c) (fd := fd)
    (by show _ ∈ (rd m).duties (xc 0 ⟨n, hn⟩ c) 0; rw [duties_x]; exact Finset.mem_singleton_self _)
    (by show _ ∈ (rd m).duties (xc 1 ⟨n, hn⟩ (dv c (n + 1))) 0; rw [duties_x]; exact Finset.mem_singleton_self _)
    () () (NX 0) (creditA_r l hl') (amount_x m 0 ⟨n, hn⟩ c 0) (amount_x m 1 ⟨n, hn⟩ (dv c (n + 1)) 0) (O₀ := owed c (up 15) (up n) (up n₃)) (owed c (up 15) (up (n + 1)) (up n₃))
    (by rw [up_step hn]; exact owed_insert₂ c (up_not hn) _ _) (W := W)
    (Entails.of_eq ((sent_back m c n j hn hj hk16 hk').trans (payload_x m 0 ⟨n, hn⟩ c 0).symm))
    (Entails.of_eq ((sent_there m c n j l hn hj hl hk16 hl16 hk' hl' fd).trans (payload_x m 1 ⟨n, hn⟩ (dv c (n + 1)) 0).symm)))
    $$ [Hs Hd HO Ht Ht']
  · isplitr; · iapply (records_inv m K (c, some (0, ⟨n, hn⟩))); iexact HR
    isplitr; · iapply (records_inv m K (dv c (n + 1), some (1, ⟨n, hn⟩))); iexact HR
    isplitl [Hs]; · iexact Hs
    isplitl [Hd]; · iexact Hd
    isplitl [HO]; · iexact HO
    isplitl [Ht]; · iexact Ht
    isplitr; · iapply (records_reached m K (c, some (0, ⟨n, hn⟩))); iexact HR
    isplitl [Ht']; · iexact Ht'
    iapply (records_reached m K (dv c (n + 1), some (1, ⟨n, hn⟩))); iexact HR
  iintro ⟨Hc', HO⟩
  iapply Hk
  isplitl [HO]; · iexists W; iexact HO
  isplitl [Hrest]; · iexact Hrest
  isplitl [Hc']; · iexact Hc'
  iexact Hc

/-- The sent slot of results, as the result buffer's; -/
theorem ret_back (c : Dev nD) (n j : ℕ) (hn : n < 15) (hj : j = n + 1) (hk : j < 16) (hk') :
    ((slotB yM j hk').view.loc (c : Thread nD τ) ↦[(slotB yM j hk').view.set]{fullShare} YB m c : sProp 𝕄) = buf m 2 c {cslot 2 ⟨n, hn⟩} := by
  rw [← slot_sent (a := 2) rfl hn hj hk, set_ySlot j hk hk']; rfl

/-- as the other device's returned results have it. -/
theorem ret_there (c : Dev nD) (n j l : ℕ) (hn : n < 15) (hj : j = n + 1) (hl : j + l = 16) (hk : j < 16) (hl16 : l < 16) (hk' hl') (fd : BufB F) :
    ((slotB tM l hl').view.loc (dv c (n + 1) : Thread nD τ) ↦[(slotB tM l hl').view.set]{fullShare}
      ((slotB tM l hl').view.write (Elt F) fd ((slotB yM j hk').view.read (Elt F) (YB m c)) Finset.univ) : sProp 𝕄)
      = buf m 3 (dv c (n + 1)) {cslot 3 ⟨n, hn⟩} := by
  subst hj
  rw [← slot_got (a := 3) (by decide) hn rfl hl hl16, set_tSlot l hl16 hl']
  exact pointsTo_congr fun i hi => landed_YR m c (n + 1) l hk hl16 hl hk' hl' fd i hi

/-- The `n`-th result transfer, likewise. -/
theorem step_ret (c e : Dev nD) (n j l : ℕ) (hn : n < 15) (hj : j = n + 1) (hl : j + l = 16) (he : e = dv c (n + 1)) (b : ℕ) (hb : j < b) {sS sR : DmaSem sig}
    (hS : sS = xsem 2 ⟨n, hn⟩) (hR : sR = xsem 3 ⟨n, hn⟩) {hk' hl'}
    {hsc : (slotB tM l hl' : Memref sig (Dev.tc e : Thread nD τ).2.kind .vmem S64x512 .bf16).view.ref.isScScratch = false}
    {hsrc : (slotB yM j hk').view.WordExact} {hdst : (slotB tM l hl').view.WordExact}
    {hsem : DmaTarget.Typed .vmem (.dma sR) (.remote (Dev.tc e : Thread nD τ) (slotB tM l hl') (.dma sS) hsc)}
    {α : Type} {Q : α → sProp 𝕄} {k : PUnit → Prog (TpuEff nD τ sig (Elt F) Λ₀ .tc) α} :
    iprop(records m K ∗ Owe c 15 15 n ∗ Ret c n ∗ yP c (rg j b) (YB m c))
      ⊢ iprop(((Owe c 15 15 (n + 1) ∗ Ret c (n + 1) ∗ yP c (rg (j + 1) b) (YB m c)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotB yM j hk') (.remote (Dev.tc e : Thread nD τ) (slotB tM l hl') (.dma sS) hsc) (.dma sR) hsrc hdst hsem) k) Q) := by
  subst he hS hR
  have hk16 : j < 16 := by omega
  have hl16 : l < 16 := by omega
  rw [rg_step hb hk16, yP_union c (rg_disj hk16)]
  unfold Owe Ret
  rw [bigSep_up _ hn, bigSep_dn _ hn, ← slot_got (a := 3) (by decide) hn hj hl hl16]
  unfold tP yP
  rw [← set_ySlot j hk16 hk', ← set_tSlot l hl16 hl']
  iintro ⟨#HR, ⟨%W, HO⟩, ⟨⟨⟨Ht, Ht', ⟨%fd, Hd⟩⟩, Hrest⟩, Hc⟩, Hs, Hy⟩ Hk
  iapply (Rounds.wp_send_pointsTo 𝒱₀ ER (rd m) (c : Thread nD τ) none (c' := (dv c (n + 1) : Thread nD τ)) (src := slotB yM j hk') (dst := slotB tM l hl')
    (sS := .dma (xsem 2 ⟨n, hn⟩)) (sem := .dma (xsem 3 ⟨n, hn⟩)) (hsc := hsc) (hsrc := hsrc) (hdst := hdst) (hsem := hsem) (κ₁ := K (c, some (2, ⟨n, hn⟩))) (κ₂ := K (dv c (n + 1), some (3, ⟨n, hn⟩)))
    (r₁ := 0) (r₂ := 0) (d₁ := 0) (d₂ := 0) (fs := YB m c) (fd := fd)
    (by show _ ∈ (rd m).duties (xc 2 ⟨n, hn⟩ c) 0; rw [duties_x]; exact Finset.mem_singleton_self _)
    (by show _ ∈ (rd m).duties (xc 3 ⟨n, hn⟩ (dv c (n + 1))) 0; rw [duties_x]; exact Finset.mem_singleton_self _)
    () () (NX 2) (creditB_t l hl') (amount_x m 2 ⟨n, hn⟩ c 0) (amount_x m 3 ⟨n, hn⟩ (dv c (n + 1)) 0) (O₀ := owed c (up 15) (up 15) (up n)) (owed c (up 15) (up 15) (up (n + 1)))
    (by rw [up_step hn]; exact owed_insert₃ c (up_not hn) _ _) (W := W)
    (Entails.of_eq ((ret_back m c n j hn hj hk16 hk').trans (payload_x m 2 ⟨n, hn⟩ c 0).symm))
    (Entails.of_eq ((ret_there m c n j l hn hj hl hk16 hl16 hk' hl' fd).trans (payload_x m 3 ⟨n, hn⟩ (dv c (n + 1)) 0).symm)))
    $$ [Hs Hd HO Ht Ht']
  · isplitr; · iapply (records_inv m K (c, some (2, ⟨n, hn⟩))); iexact HR
    isplitr; · iapply (records_inv m K (dv c (n + 1), some (3, ⟨n, hn⟩))); iexact HR
    isplitl [Hs]; · iexact Hs
    isplitl [Hd]; · iexact Hd
    isplitl [HO]; · iexact HO
    isplitl [Ht]; · iexact Ht
    isplitr; · iapply (records_reached m K (c, some (2, ⟨n, hn⟩))); iexact HR
    isplitl [Ht']; · iexact Ht'
    iapply (records_reached m K (dv c (n + 1), some (3, ⟨n, hn⟩))); iexact HR
  iintro ⟨Hc', HO⟩
  iapply Hk
  isplitl [HO]; · iexists W; iexact HO
  isplitr [Hy]
  · isplitl [Hrest]; · iexact Hrest
    isplitl [Hc']; · iexact Hc'
    iexact Hc
  iexact Hy

end

end Cert.MoE
-- ==== Proof.Access.lean ====
/-
# The kernel's semaphores by number, and its loads and stores

A semaphore taken out of one of the four arrays of fifteen is the one of that kind and index. A load of some rows of some
slots needs only those slots to be held; a store of whole slots leaves them with what was stored.
-/
module

public import proofs.«01_k».proof.Proof.Steps

@[expose] public section

noncomputable section

namespace Cert.MoE

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Semaphores -/

/-- The `k`-th semaphore of an array of fifteen numbered from `base` is number `base + k`. -/
theorem sem_val (base : ℕ) (hb : base + S15.numel ≤ 64) (k : ℕ) (h) :
    (((SemArray.consecutive base S15 hb).slice (Rect.unit (s := S15) ![k] S1.size h)).squeeze S_ squeezes_S1_S_).sem.val = base + k := by
  show base + (S15.rowMajor _).val = _
  rw [Shape.rowMajor_val_one]
  refine congrArg (base + ·) ?_
  have z : ∀ y : Fin 1, k + 1 * y.val = k := fun y => by omega
  exact z _

/-- Number `k` of the kernel's first array of semaphores: the departure of the `k`-th token transfer. -/
theorem sem_ss (k : ℕ) (hk : k < 15) (h) : ((cc0_scratch4.slice (Rect.unit (s := S15) ![k] S1.size h)).squeeze S_ squeezes_S1_S_).sem = xsem 0 ⟨k, hk⟩ :=
  Fin.ext (sem_val 4 hcc0_scratch4 k h)
/-- Number `k` of its second: the arrival of a token transfer. -/
theorem sem_sr (k : ℕ) (hk : k < 15) (h) : ((cc0_scratch5.slice (Rect.unit (s := S15) ![k] S1.size h)).squeeze S_ squeezes_S1_S_).sem = xsem 1 ⟨k, hk⟩ :=
  Fin.ext (sem_val 19 hcc0_scratch5 k h)
/-- Number `k` of its third: the departure of a result transfer. -/
theorem sem_rs (k : ℕ) (hk : k < 15) (h) : ((cc0_scratch6.slice (Rect.unit (s := S15) ![k] S1.size h)).squeeze S_ squeezes_S1_S_).sem = xsem 2 ⟨k, hk⟩ :=
  Fin.ext (sem_val 34 hcc0_scratch6 k h)
/-- Number `k` of its fourth: the arrival of a result transfer. -/
theorem sem_rr (k : ℕ) (hk : k < 15) (h) : ((cc0_scratch7.slice (Rect.unit (s := S15) ![k] S1.size h)).squeeze S_ squeezes_S1_S_).sem = xsem 3 ⟨k, hk⟩ :=
  Fin.ext (sem_val 49 hcc0_scratch7 k h)

/-! ## Loads and stores -/

/-- A box of an array of slots lies within the slots it starts and ends at. -/
theorem box_slab {a b : ℕ} (off sz : Fin 3 → ℕ) (h : ∀ x, off x + sz x ≤ (⟨3, ![16, a, b]⟩ : Shape).size x) {A : Finset (Fin 16)}
    (hA : ∀ s : Fin 16, off 0 ≤ s.val → s.val < off 0 + sz 0 → s ∈ A) :
    (Rect.unit (s := ⟨3, ![16, a, b]⟩) off sz h).set ⊆ slab A := fun i hi => by
  have := Rect.mem_set_unit.mp hi
  exact mem_slab.mpr (hA _ (this 0).1 (this 0).2)

variable {F : FTy → Type} [FloatOps F]

local notation "𝕄" => MT nD τ sig Unit (Elt F) ℕ UU ℕ

section

/-- A load from the send buffer of a box within slots that the device holds. -/
theorem load_s (c : Dev nD) {A : Finset (Fin 16)} {f : BufA F} (off sz : Fin 3 → ℕ) (h : ∀ x, off x + sz x ≤ S16x65x256.size x) {hl : sM.view.LoadsAt (Rect.unit (s := S16x65x256) off sz h).toLoadRect}
    (hA : ∀ s : Fin 16, off 0 ≤ s.val → s.val < off 0 + sz 0 → s ∈ A)
    {α : Type} {Q : α → sProp 𝕄} {k : ((Rect.unit (s := S16x65x256) off sz h).toLoadRect.shape.Idx → Elt F .bf16) → Prog (TpuEff nD τ sig (Elt F) Λ₀ .tc) α} :
    sP c A f ⊢ iprop((sP c A f -∗ wp frame (wpE (defs₀ (F := F)) 𝒱₀ (c : Thread nD τ) none) Set.univ
        (k (sM.view.readAt (Elt F) (Rect.unit (s := S16x65x256) off sz h).toLoadRect f)) Q)
      -∗ wp frame (wpE (defs₀ (F := F)) 𝒱₀ (c : Thread nD τ) none) Set.univ (.op (.load sM (Rect.unit (s := S16x65x256) off sz h).toLoadRect hl) k) Q) := by
  unfold sP
  have hS : sM.view.setOn (Rect.unit (s := _) off sz h).toLoadRect.set ⊆ slab A := (map_refl _).trans_subset (box_slab off sz h hA)
  exact wp_load 𝒱₀ (c : Thread nD τ) none Set.univ (m := sM) hS
/-- A load from the receive buffer of a box within slots that the device holds. -/
theorem load_r (c : Dev nD) {A : Finset (Fin 16)} {f : BufA F} (off sz : Fin 3 → ℕ) (h : ∀ x, off x + sz x ≤ S16x65x256.size x) {hl : rM.view.LoadsAt (Rect.unit (s := S16x65x256) off sz h).toLoadRect}
    (hA : ∀ s : Fin 16, off 0 ≤ s.val → s.val < off 0 + sz 0 → s ∈ A)
    {α : Type} {Q : α → sProp 𝕄} {k : ((Rect.unit (s := S16x65x256) off sz h).toLoadRect.shape.Idx → Elt F .bf16) → Prog (TpuEff nD τ sig (Elt F) Λ₀ .tc) α} :
    rP c A f ⊢ iprop((rP c A f -∗ wp frame (wpE (defs₀ (F := F)) 𝒱₀ (c : Thread nD τ) none) Set.univ
        (k (rM.view.readAt (Elt F) (Rect.unit (s := S16x65x256) off sz h).toLoadRect f)) Q)
      -∗ wp frame (wpE (defs₀ (F := F)) 𝒱₀ (c : Thread nD τ) none) Set.univ (.op (.load rM (Rect.unit (s := S16x65x256) off sz h).toLoadRect hl) k) Q) := by
  unfold rP
  have hS : rM.view.setOn (Rect.unit (s := _) off sz h).toLoadRect.set ⊆ slab A := (map_refl _).trans_subset (box_slab off sz h hA)
  exact wp_load 𝒱₀ (c : Thread nD τ) none Set.univ (m := rM) hS
/-- A load from the result buffer of a box within slots that the device holds. -/
theorem load_y (c : Dev nD) {A : Finset (Fin 16)} {f : BufB F} (off sz : Fin 3 → ℕ) (h : ∀ x, off x + sz x ≤ S16x64x512.size x) {hl : yM.view.LoadsAt (Rect.unit (s := S16x64x512) off sz h).toLoadRect}
    (hA : ∀ s : Fin 16, off 0 ≤ s.val → s.val < off 0 + sz 0 → s ∈ A)
    {α : Type} {Q : α → sProp 𝕄} {k : ((Rect.unit (s := S16x64x512) off sz h).toLoadRect.shape.Idx → Elt F .bf16) → Prog (TpuEff nD τ sig (Elt F) Λ₀ .tc) α} :
    yP c A f ⊢ iprop((yP c A f -∗ wp frame (wpE (defs₀ (F := F)) 𝒱₀ (c : Thread nD τ) none) Set.univ
        (k (yM.view.readAt (Elt F) (Rect.unit (s := S16x64x512) off sz h).toLoadRect f)) Q)
      -∗ wp frame (wpE (defs₀ (F := F)) 𝒱₀ (c : Thread nD τ) none) Set.univ (.op (.load yM (Rect.unit (s := S16x64x512) off sz h).toLoadRect hl) k) Q) := by
  unfold yP
  have hS : yM.view.setOn (Rect.unit (s := _) off sz h).toLoadRect.set ⊆ slab A := (map_refl _).trans_subset (box_slab off sz h hA)
  exact wp_load 𝒱₀ (c : Thread nD τ) none Set.univ (m := yM) hS
/-- A load from the returned results of a box within slots that the device holds. -/
theorem load_t (c : Dev nD) {A : Finset (Fin 16)} {f : BufB F} (off sz : Fin 3 → ℕ) (h : ∀ x, off x + sz x ≤ S16x64x512.size x) {hl : tM.view.LoadsAt (Rect.unit (s := S16x64x512) off sz h).toLoadRect}
    (hA : ∀ s : Fin 16, off 0 ≤ s.val → s.val < off 0 + sz 0 → s ∈ A)
    {α : Type} {Q : α → sProp 𝕄} {k : ((Rect.unit (s := S16x64x512) off sz h).toLoadRect.shape.Idx → Elt F .bf16) → Prog (TpuEff nD τ sig (Elt F) Λ₀ .tc) α} :
    tP c A f ⊢ iprop((tP c A f -∗ wp frame (wpE (defs₀ (F := F)) 𝒱₀ (c : Thread nD τ) none) Set.univ
        (k (tM.view.readAt (Elt F) (Rect.unit (s := S16x64x512) off sz h).toLoadRect f)) Q)
      -∗ wp frame (wpE (defs₀ (F := F)) 𝒱₀ (c : Thread nD τ) none) Set.univ (.op (.load tM (Rect.unit (s := S16x64x512) off sz h).toLoadRect hl) k) Q) := by
  unfold tP
  have hS : tM.view.setOn (Rect.unit (s := _) off sz h).toLoadRect.set ⊆ slab A := (map_refl _).trans_subset (box_slab off sz h hA)
  exact wp_load 𝒱₀ (c : Thread nD τ) none Set.univ (m := tM) hS

/-- The slots of a run, as the run's elements name them. -/
theorem slab_run {a b o l : ℕ} (hl : o + l ≤ 16) (A : Finset (Fin 16)) (hA : ∀ s ∈ A, o ≤ s.val ∧ s.val < o + l)
    {P : (⟨3, ![16, a, b]⟩ : Shape).Idx → Prop} (h : ∀ (p : Fin l) i j, P (ix3 (⟨o + p.val, by omega⟩ : Fin 16) i j)) : ∀ x ∈ slab A, P x := by
  intro x hx
  have hs := hA _ (mem_slab.mp hx)
  have e : x = ix3 (⟨o + (⟨(slotOf x).val - o, by omega⟩ : Fin l).val, by omega⟩ : Fin 16) (x 1) (x 2) :=
    (eq_ix3 x).trans (congrArg (fun s => ix3 s (x 1) (x 2)) (Fin.ext (by
      show (slotOf x).val = o + ((slotOf x).val - o); omega)))
  rw [e]; exact h _ _ _

/-- What a store of a run of slots touches. -/
theorem access_run {a b : ℕ} {e : EltTy} (M : Memref sig .tc .vmem ⟨3, ![16, a, b]⟩ e) (r : Rect ⟨3, ![16, a, b]⟩) :
    (M.access r).setOn Finset.univ ⊆ M.view.setOn r.set := fun x hx => by
  obtain ⟨y, _, rfl⟩ := Finset.mem_map.mp hx
  exact Finset.mem_map_of_mem _ (by rw [← Rect.map_emb_univ]; exact Finset.mem_map_of_mem _ (Finset.mem_univ y))

/-- A store of a run of slots of the receive buffer, to contents that agree with what is stored. -/
theorem store_r (c : Dev nD) {A : Finset (Fin 16)} {f : BufA F} (f' : BufA F) (o l : ℕ) (hl : o + l ≤ 16)
    (h : ∀ x, (![o, 0, 0] : Fin 3 → ℕ) x + (⟨3, ![l, 65, 256]⟩ : Shape).size x ≤ S16x65x256.size x)
    {w : (⟨3, ![l, 65, 256]⟩ : Shape).Idx → Elt F .bf16} {hx : (rM.access (Rect.unit (s := S16x65x256) ![o, 0, 0] (⟨3, ![l, 65, 256]⟩ : Shape).size h)).Stores Finset.univ}
    {hm : Finset.univ = Finset.univ ∨ ∀ a, (Rect.unit (s := S16x65x256) ![o, 0, 0] (⟨3, ![l, 65, 256]⟩ : Shape).size h).stride a = 1}
    (hA : ∀ s : Fin 16, s ∈ A ↔ o ≤ s.val ∧ s.val < o + l) (hw : ∀ (p : Fin l) i j, w (ix3 p i j) = f' (ix3 (⟨o + p.val, by omega⟩ : Fin 16) i j))
    {α : Type} {Q : α → sProp 𝕄} {k : PUnit → Prog (TpuEff nD τ sig (Elt F) Λ₀ .tc) α} :
    rP c A f ⊢ iprop((rP c A f' -∗ wp frame (wpE (defs₀ (F := F)) 𝒱₀ (c : Thread nD τ) none) Set.univ (k ⟨⟩) Q)
      -∗ wp frame (wpE (defs₀ (F := F)) 𝒱₀ (c : Thread nD τ) none) Set.univ
        (.op (.store rM (Rect.unit (s := S16x65x256) ![o, 0, 0] (⟨3, ![l, 65, 256]⟩ : Shape).size h) w Finset.univ hx hm) k) Q) := by
  unfold rP
  have hS : (rM.access (Rect.unit (s := S16x65x256) ![o, 0, 0] (⟨3, ![l, 65, 256]⟩ : Shape).size h)).setOn Finset.univ ⊆ slab A :=
    (access_run rM _).trans ((map_refl _).trans_subset (box_slab _ _ h fun s h1 h2 => (hA s).mpr ⟨h1, h2⟩))
  have e : ∀ x ∈ slab A, (rM.access (Rect.unit (s := S16x65x256) ![o, 0, 0] (⟨3, ![l, 65, 256]⟩ : Shape).size h)).write (Elt F) f w Finset.univ x = f' x :=
    slab_run hl A (fun s hs => (hA s).mp hs) fun p i j => (putA o l hl h f w p i j).trans (hw p i j)
  iintro H Hk
  iapply (wp_store 𝒱₀ (c : Thread nD τ) none Set.univ (m := rM) (Mk := Finset.univ) hS) $$ H
  iintro H
  iapply Hk
  iapply (Entails.of_eq (pointsTo_congr e))
  iexact H

/-- A store of a run of slots of the result buffer, to contents that agree with what is stored. -/
theorem store_y (c : Dev nD) {A : Finset (Fin 16)} {f : BufB F} (f' : BufB F) (o l : ℕ) (hl : o + l ≤ 16)
    (h : ∀ x, (![o, 0, 0] : Fin 3 → ℕ) x + (⟨3, ![l, 64, 512]⟩ : Shape).size x ≤ S16x64x512.size x)
    {w : (⟨3, ![l, 64, 512]⟩ : Shape).Idx → Elt F .bf16} {hx : (yM.access (Rect.unit (s := S16x64x512) ![o, 0, 0] (⟨3, ![l, 64, 512]⟩ : Shape).size h)).Stores Finset.univ}
    {hm : Finset.univ = Finset.univ ∨ ∀ a, (Rect.unit (s := S16x64x512) ![o, 0, 0] (⟨3, ![l, 64, 512]⟩ : Shape).size h).stride a = 1}
    (hA : ∀ s : Fin 16, s ∈ A ↔ o ≤ s.val ∧ s.val < o + l) (hw : ∀ (p : Fin l) i j, w (ix3 p i j) = f' (ix3 (⟨o + p.val, by omega⟩ : Fin 16) i j))
    {α : Type} {Q : α → sProp 𝕄} {k : PUnit → Prog (TpuEff nD τ sig (Elt F) Λ₀ .tc) α} :
    yP c A f ⊢ iprop((yP c A f' -∗ wp frame (wpE (defs₀ (F := F)) 𝒱₀ (c : Thread nD τ) none) Set.univ (k ⟨⟩) Q)
      -∗ wp frame (wpE (defs₀ (F := F)) 𝒱₀ (c : Thread nD τ) none) Set.univ
        (.op (.store yM (Rect.unit (s := S16x64x512) ![o, 0, 0] (⟨3, ![l, 64, 512]⟩ : Shape).size h) w Finset.univ hx hm) k) Q) := by
  unfold yP
  have hS : (yM.access (Rect.unit (s := S16x64x512) ![o, 0, 0] (⟨3, ![l, 64, 512]⟩ : Shape).size h)).setOn Finset.univ ⊆ slab A :=
    (access_run yM _).trans ((map_refl _).trans_subset (box_slab _ _ h fun s h1 h2 => (hA s).mpr ⟨h1, h2⟩))
  have e : ∀ x ∈ slab A, (yM.access (Rect.unit (s := S16x64x512) ![o, 0, 0] (⟨3, ![l, 64, 512]⟩ : Shape).size h)).write (Elt F) f w Finset.univ x = f' x :=
    slab_run hl A (fun s hs => (hA s).mp hs) fun p i j => (putY o l hl h f w p i j).trans (hw p i j)
  iintro H Hk
  iapply (wp_store 𝒱₀ (c : Thread nD τ) none Set.univ (m := yM) (Mk := Finset.univ) hS) $$ H
  iintro H
  iapply Hk
  iapply (Entails.of_eq (pointsTo_congr e))
  iexact H

/-- A store of a run of slots of the returned results, to contents that agree with what is stored. -/
theorem store_t (c : Dev nD) {A : Finset (Fin 16)} {f : BufB F} (f' : BufB F) (o l : ℕ) (hl : o + l ≤ 16)
    (h : ∀ x, (![o, 0, 0] : Fin 3 → ℕ) x + (⟨3, ![l, 64, 512]⟩ : Shape).size x ≤ S16x64x512.size x)
    {w : (⟨3, ![l, 64, 512]⟩ : Shape).Idx → Elt F .bf16} {hx : (tM.access (Rect.unit (s := S16x64x512) ![o, 0, 0] (⟨3, ![l, 64, 512]⟩ : Shape).size h)).Stores Finset.univ}
    {hm : Finset.univ = Finset.univ ∨ ∀ a, (Rect.unit (s := S16x64x512) ![o, 0, 0] (⟨3, ![l, 64, 512]⟩ : Shape).size h).stride a = 1}
    (hA : ∀ s : Fin 16, s ∈ A ↔ o ≤ s.val ∧ s.val < o + l) (hw : ∀ (p : Fin l) i j, w (ix3 p i j) = f' (ix3 (⟨o + p.val, by omega⟩ : Fin 16) i j))
    {α : Type} {Q : α → sProp 𝕄} {k : PUnit → Prog (TpuEff nD τ sig (Elt F) Λ₀ .tc) α} :
    tP c A f ⊢ iprop((tP c A f' -∗ wp frame (wpE (defs₀ (F := F)) 𝒱₀ (c : Thread nD τ) none) Set.univ (k ⟨⟩) Q)
      -∗ wp frame (wpE (defs₀ (F := F)) 𝒱₀ (c : Thread nD τ) none) Set.univ
        (.op (.store tM (Rect.unit (s := S16x64x512) ![o, 0, 0] (⟨3, ![l, 64, 512]⟩ : Shape).size h) w Finset.univ hx hm) k) Q) := by
  unfold tP
  have hS : (tM.access (Rect.unit (s := S16x64x512) ![o, 0, 0] (⟨3, ![l, 64, 512]⟩ : Shape).size h)).setOn Finset.univ ⊆ slab A :=
    (access_run tM _).trans ((map_refl _).trans_subset (box_slab _ _ h fun s h1 h2 => (hA s).mpr ⟨h1, h2⟩))
  have e : ∀ x ∈ slab A, (tM.access (Rect.unit (s := S16x64x512) ![o, 0, 0] (⟨3, ![l, 64, 512]⟩ : Shape).size h)).write (Elt F) f w Finset.univ x = f' x :=
    slab_run hl A (fun s hs => (hA s).mp hs) fun p i j => (putT o l hl h f w p i j).trans (hw p i j)
  iintro H Hk
  iapply (wp_store 𝒱₀ (c : Thread nD τ) none Set.univ (m := tM) (Mk := Finset.univ) hS) $$ H
  iintro H
  iapply Hk
  iapply (Entails.of_eq (pointsTo_congr e))
  iexact H

/-- A store of the whole send buffer. -/
theorem store_s (c : Dev nD) {f : BufA F} {w : BufA F} (h : ∀ x, (![0, 0, 0] : Fin 3 → ℕ) x + S16x65x256.size x ≤ S16x65x256.size x)
    {hx : (sM.access (Rect.unit (s := S16x65x256) ![0, 0, 0] S16x65x256.size h)).Stores Finset.univ}
    {hm : Finset.univ = Finset.univ ∨ ∀ a, (Rect.unit (s := S16x65x256) ![0, 0, 0] S16x65x256.size h).stride a = 1}
    {α : Type} {Q : α → sProp 𝕄} {k : PUnit → Prog (TpuEff nD τ sig (Elt F) Λ₀ .tc) α} :
    sP c Finset.univ f ⊢ iprop((sP c Finset.univ w -∗ wp frame (wpE (defs₀ (F := F)) 𝒱₀ (c : Thread nD τ) none) Set.univ (k ⟨⟩) Q)
      -∗ wp frame (wpE (defs₀ (F := F)) 𝒱₀ (c : Thread nD τ) none) Set.univ
        (.op (.store sM (Rect.unit (s := S16x65x256) ![0, 0, 0] S16x65x256.size h) w Finset.univ hx hm) k) Q) := by
  unfold sP
  have hz : (![0, 0, 0] : Fin 3 → Nat) = fun _ => 0 := funext fun a => by fin_cases a <;> rfl
  have e : (sM.access (Rect.unit (s := S16x65x256) ![0, 0, 0] S16x65x256.size h)).write (Elt F) f w Finset.univ = w :=
    Memref.write_access_unit_zero_univ (Elt F) cc0_scratch0 hz _ f w
  have hS : (sM.access (Rect.unit (s := S16x65x256) ![0, 0, 0] S16x65x256.size h)).setOn Finset.univ ⊆ slab Finset.univ :=
    fun x _ => mem_slab.mpr (Finset.mem_univ _)
  iintro H Hk
  iapply (wp_store 𝒱₀ (c : Thread nD τ) none Set.univ (m := sM) (Mk := Finset.univ) hS) $$ H
  iintro H
  iapply Hk
  rw [e]
  iexact H

end

end Cert.MoE
-- ==== Proof.Hold.lean ====
/-
# What a device starts with, sorted into what its steps take

A device begins with a duty for each of its signals and transfers, its position on each semaphore, and its buffers. Here
these are gathered into what the signals, the transfers and the waits consume, and what they leave is gathered back.
-/
module

public import proofs.«01_k».proof.Proof.Access

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Premises one after another -/

omit [FloatOps F] in
/-- Two premises taken together may be taken one by one; -/
theorem one_by_one₂ {A B R : sProp 𝕄} (h : iprop(A ∗ B) ⊢ R) : A ⊢ iprop(B -∗ R) := by
  iintro HA HB; iapply h; isplitl [HA] <;> iassumption
omit [FloatOps F] in
/-- so may three, -/
theorem one_by_one₃ {A B C R : sProp 𝕄} (h : iprop(A ∗ B ∗ C) ⊢ R) : A ⊢ iprop(B -∗ C -∗ R) := by
  iintro HA HB HC; iapply h; isplitl [HA]; · iassumption
  isplitl [HB] <;> iassumption
omit [FloatOps F] in
/-- four -/
theorem one_by_one₄ {A B C D R : sProp 𝕄} (h : iprop(A ∗ B ∗ C ∗ D) ⊢ R) : A ⊢ iprop(B -∗ C -∗ D -∗ R) := by
  iintro HA HB HC HD; iapply h; isplitl [HA]; · iassumption
  isplitl [HB]; · iassumption
  isplitl [HC] <;> iassumption
omit [FloatOps F] in
/-- and five. -/
theorem one_by_one₅ {A B C D E R : sProp 𝕄} (h : iprop(A ∗ B ∗ C ∗ D ∗ E) ⊢ R) : A ⊢ iprop(B -∗ C -∗ D -∗ E -∗ R) := by
  iintro HA HB HC HD HE; iapply h; isplitl [HA]; · iassumption
  isplitl [HB]; · iassumption
  isplitl [HC]; · iassumption
  isplitl [HD] <;> iassumption

/-! ## The pieces -/

/-- Device `c`'s positions on its semaphores of kind `a`, the credits it may take from them, and their counters at zero; -/
def At (a : Fin 4) (c : Dev nD) : sProp 𝕄 := bigSep Finset.univ fun i : Fin 15 => atPos ER (xc a i c) 0 ∅ 0
/-- the credits it may take from its semaphores of kind `a`; -/
def Cr (a : Fin 4) (c : Dev nD) : sProp 𝕄 := bigSep Finset.univ fun i : Fin 15 => cred (tallyAt (xc a i c) () (NX a))
/-- the counters of those semaphores at zero; -/
def Zv (a : Fin 4) (c : Dev nD) : sProp 𝕄 := bigSep Finset.univ fun i : Fin 15 => semVal (xc a i c) 0
/-- its duties: to signal the others' barriers, on its own semaphores, on those of the others. -/
def TB (c : Dev nD) : sProp 𝕄 := bigSep Finset.univ fun i : Fin 15 => dutyTok ER (bc (dv c (i.val + 1))) 0 i.rev
/-- the duties on its own semaphores of kind `a`, which its departures pay; -/
def TS (a : Fin 4) (c : Dev nD) : sProp 𝕄 := bigSep Finset.univ fun i : Fin 15 => dutyTok ER (xc a i c) 0 (0 : Fin 15)
/-- the duties on the others' semaphores of kind `a`, which its arrivals there pay. -/
def TR (a : Fin 4) (c : Dev nD) : sProp 𝕄 := bigSep Finset.univ fun i : Fin 15 => dutyTok ER (xc a i (dv c (i.val + 1))) 0 (0 : Fin 15)

/-- A buffer is its slot `0` and the fifteen slots of transfers. -/
theorem slots_split (Φ : Finset (Fin 16) → sProp 𝕄) (hΦ : ∀ {A B : Finset (Fin 16)}, Disjoint A B → Φ (A ∪ B) = iprop(Φ A ∗ Φ B)) :
    Φ Finset.univ = iprop(Φ {0} ∗ bigSep Finset.univ fun i : Fin 15 => Φ {cslot 0 i}) := by
  have key : ∀ T : Finset (Fin 15), Φ (T.image (cslot 0) ∪ {0}) = iprop((bigSep T fun i => Φ {cslot 0 i}) ∗ Φ {0}) := by
    intro T
    induction T using Finset.induction_on with
    | empty =>
      rw [Finset.image_empty, Finset.empty_union, bigSep_empty]
      exact Idealize.SL.BI.Entails.antisymm Idealize.SL.BI.emp_sep_intro Idealize.SL.BI.emp_sep_elim
    | insert i T hi ih =>
      rw [Finset.image_insert, Finset.insert_union, Finset.insert_eq, hΦ, ih, bigSep_insert hi]
      · exact Idealize.SL.BI.Entails.antisymm Idealize.SL.BI.sep_assoc' Idealize.SL.BI.sep_assoc
      · rw [Finset.disjoint_singleton_left, Finset.mem_union, not_or]
        refine ⟨fun h => ?_, fun h => cslot_ne_zero 0 i (Finset.mem_singleton.mp h)⟩
        obtain ⟨j, hj, e⟩ := Finset.mem_image.mp h
        exact hi (cslot_inj 0 e ▸ hj)
  have hu : (Finset.univ : Finset (Fin 16)) = Finset.univ.image (cslot 0) ∪ {0} := by decide
  rw [hu, key]
  exact Idealize.SL.BI.Entails.antisymm Idealize.SL.BI.sep_comm Idealize.SL.BI.sep_comm

omit [FloatOps F] in
/-- Where each of a family holds of one thing, each holds of something. -/
theorem with_ex {I X : Type} [DecidableEq I] (S : Finset I) (Φ : I → X → sProp 𝕄) (f : X) : bigSep S (fun i => Φ i f) ⊢ bigSep S fun i => iprop(∃ x, Φ i x) :=
  bigSep_mono fun i _ => show Φ i f ⊢ iprop(∃ x, Φ i x) from by iintro H; iexists f; iexact H

/-- For the signals: the duties, and the two receive buffers but for their slots `0`. -/
theorem Sig_intro (c : Dev nD) (f : BufA F) (g : BufB F) :
    iprop(TB c ∗ rP c Finset.univ f ∗ tP c Finset.univ g) ⊢ iprop(Sig (F := F) c 0 ∗ rP c {0} f ∗ tP c {0} g) := by
  unfold Sig TB
  rw [up_zero, slots_split (fun A => rP c A f) (fun h => rP_union c h f), slots_split (fun A => tP c A g) (fun h => tP_union c h g), bigSep_sep', bigSep_sep']
  iintro ⟨HT, ⟨Hr0, Hr⟩, Ht0, Ht⟩
  isplitl [HT Hr Ht]
  · isplitl [HT]; · iexact HT
    isplitl [Hr]
    · iapply (with_ex Finset.univ (fun (i : Fin 15) (f : BufA F) => rP c {cslot 0 i} f) f); iexact Hr
    iapply (with_ex Finset.univ (fun (i : Fin 15) (f : BufB F) => tP c {cslot 0 i} f) g); iexact Ht
  isplitl [Hr0] <;> iassumption

/-- For the token transfers, after the barrier: the duties, what the barrier brought, and the filled send buffer. -/
theorem Snd_intro (c : Dev nD) :
    iprop(TS (F := F) 0 c ∗ TR 1 c ∗ (bigSep Finset.univ fun i : Fin 15 => iprop(∃ f : BufA F, rP (dv c (i.val + 1)) {cslot 1 i} f)) ∗ sP c Finset.univ (SB m c))
      ⊢ iprop(Snd m c 0 ∗ sP c {0} (SB m c)) := by
  unfold Snd TS TR
  rw [up_zero, dn_zero, bigSep_empty, slots_split (fun A => sP c A (SB m c)) (fun h => sP_union c h _), bigSep_sep', bigSep_sep', bigSep_sep']
  iintro ⟨H1, H2, H3, H0, Hs⟩
  isplitr [H0]
  · isplitl
    · isplitl [H1]; · iexact H1
      isplitl [H2]; · iexact H2
      isplitl [H3]; · iexact H3
      iexact Hs
    iempintro
  iexact H0

/-- For the result transfers. -/
theorem Ret_intro (c : Dev nD) :
    iprop(TS (F := F) 2 c ∗ TR 3 c ∗ (bigSep Finset.univ fun i : Fin 15 => iprop(∃ f : BufB F, tP (dv c (i.val + 1)) {cslot 3 i} f))) ⊢ Ret (F := F) c 0 := by
  unfold Ret TS TR
  rw [up_zero, dn_zero, bigSep_empty, bigSep_sep', bigSep_sep']
  iintro ⟨H1, H2, H3⟩
  isplitl
  · isplitl [H1]; · iexact H1
    isplitl [H2]; · iexact H2
    iexact H3
  iempintro

omit [FloatOps F] in
/-- What the barrier brought, by buffer. -/
theorem barPays (c : Dev nD) : bigSep Finset.univ (barPay (F := F) c)
    = iprop((bigSep Finset.univ fun i : Fin 15 => iprop(∃ f : BufA F, rP (dv c (i.val + 1)) {cslot 1 i} f))
        ∗ bigSep Finset.univ fun i : Fin 15 => iprop(∃ f : BufB F, tP (dv c (i.val + 1)) {cslot 3 i} f)) := by
  rw [← bigSep_sep']; rfl

/-- The transfers leave the credits for waiting on them. -/
theorem Snd_done (c : Dev nD) : Snd m c 15 ⊢ Cr (F := F) 0 c := by
  unfold Snd Cr; rw [up_all, dn_all, bigSep_empty]; iintro ⟨-, H⟩; iexact H
/-- So do the result transfers. -/
theorem Ret_done (c : Dev nD) : Ret (F := F) c 15 ⊢ Cr (F := F) 2 c := by
  unfold Ret Cr; rw [up_all, dn_all, bigSep_empty]; iintro ⟨-, H⟩; iexact H

/-- The waits of a kind, in any order, begin with its credits, its positions and slot `0`. -/
theorem Wt_intro (a : Fin 4) {ord : Fin 15 → Fin 15} (hord : Function.Injective ord) (c : Dev nD) :
    iprop(Cr (F := F) a c ∗ At a c ∗ buf m a c {0}) ⊢ Wt m a ord c 0 := by
  unfold Wt Cr At got
  have hb := Finite.injective_iff_bijective.mp hord
  rw [up_zero, dn_zero, bigSep_empty, Finset.image_empty, bigSep_sep',
    bigSep_univ_equiv (Equiv.ofBijective ord hb) (fun i => (cred (tallyAt (xc a i c) () (NX a)) : sProp 𝕄)),
    bigSep_univ_equiv (Equiv.ofBijective ord hb) (fun i => (atPos ER (xc a i c) 0 ∅ 0 : sProp 𝕄))]
  iintro ⟨H1, H2, H3⟩
  isplitl [H1 H2]
  · isplitl [H1]; · iexact H1
    iexact H2
  isplitr; · iempintro
  iexact H3

/-- They leave the counters at zero and the whole buffer. -/
theorem Wt_done (a : Fin 4) {ord : Fin 15 → Fin 15} (hord : Function.Injective ord) (hall : got a ord 15 = Finset.univ) (c : Dev nD) :
    Wt m a ord c 15 ⊢ iprop(Zv (F := F) a c ∗ buf m a c Finset.univ) := by
  unfold Wt Zv
  have hb := Finite.injective_iff_bijective.mp hord
  rw [up_all, dn_all, bigSep_empty, hall, bigSep_univ_equiv (Equiv.ofBijective ord hb) (fun i => (semVal (xc a i c) 0 : sProp 𝕄))]
  iintro ⟨-, H1, H2⟩
  isplitl [H1]; · iexact H1
  iexact H2

/-- The order results are waited for in: the slots `12` to `15`, then `8` to `11`, `4` to `7`, `1` to `3`. -/
def ordR : Fin 15 → Fin 15 := ![3, 2, 1, 0, 7, 6, 5, 4, 11, 10, 9, 8, 14, 13, 12]
/-- No slot is waited for twice. -/
theorem ordR_inj : Function.Injective ordR := by decide

/-- After all fifteen waits, in order, every slot is held; -/
theorem got_id (a : Fin 4) (h : a.val % 2 = 0) : got a id 15 = Finset.univ := by revert a; decide
/-- so it is in the reverse order, -/
theorem got_rev : got 1 Fin.rev 15 = Finset.univ := by decide
/-- and in the order of the results. -/
theorem got_ordR : got 3 ordR 15 = Finset.univ := by decide

end Cert.MoE
-- ==== Proof.Body.lean ====
/-
# The kernel's body, run once at a device `c`

From what the launch gives a device, through every step of the body in the order of the text, to its output block
computed, its buffers whole again and its semaphores at zero.
-/
module

public import proofs.«01_k».proof.Proof.Hold

@[expose] public section

noncomputable section

namespace Cert.MoE

open Cert.KernelIdeal Cert.KernelIdeal.Gen
open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A staging buffer, holding `X`. -/
abbrev stg (c : Dev nD) (b : Ref sig .tc) (X : b.ty.Contents (Elt F)) : sProp 𝕄 := ((c : Thread nD τ).loc b) ↦{fullShare} X

/-- The staged tokens. -/
abbrev xM : Memref sig .tc .vmem S512x256 .bf16 := Memref.whole cc0_stg0_0
/-- The staged routing indices. -/
abbrev iM : Memref sig .tc .vmem S512x1 .i32 := Memref.whole cc0_stg1_0
/-- The staged matrices of the device's two experts. -/
abbrev wM : Memref sig .tc .vmem S2x256x512 .bf16 := Memref.whole cc0_stg2_0
/-- The staged block of the output. -/
abbrev oM : Memref sig .tc .vmem S512x512 .f32 := Memref.whole cc0_stg3_0

/-- Two zero offsets, as one function. -/
theorem hz2 : (![0, 0] : Fin 2 → Nat) = fun _ => 0 := funext fun a => by fin_cases a <;> rfl
/-- Three zero offsets, as one function. -/
theorem hz3 : (![0, 0, 0] : Fin 3 → Nat) = fun _ => 0 := funext fun a => by fin_cases a <;> rfl

variable (K : Dev nD × Cell → ℕ)

/-- What a device holds of the protocol's book-keeping before the body; -/
def ghost (c : Dev nD) : sProp 𝕄 :=
  iprop(records m K ∗ atPos ER (bc c) 0 ∅ 0 ∗ (At 0 c ∗ At 1 c ∗ At 2 c ∗ At 3 c) ∗ TB c ∗ (TS 0 c ∗ TR 1 c) ∗ TS 2 c ∗ TR 3 c)
/-- the credits of the launch; -/
def creds (c : Dev nD) : sProp 𝕄 := iprop(cred (tallyAt (bc c) () 15) ∗ Cr 1 c ∗ Cr 3 c)
/-- its four buffers, with anything in them; -/
def bufs (c : Dev nD) : sProp 𝕄 :=
  iprop((∃ f : BufA F, sP c Finset.univ f) ∗ (∃ f : BufA F, rP c Finset.univ f) ∗ (∃ f : BufB F, yP c Finset.univ f) ∗ ∃ f : BufB F, tP c Finset.univ f)
/-- and of its semaphores after it. -/
def zeros (c : Dev nD) : sProp 𝕄 := iprop((Zv 0 c ∗ Zv 1 c ∗ Zv 2 c ∗ Zv 3 c) ∗ semVal (bc c) 0)

/-- The result buffer is its slot `0` and three groups of five slots. -/
theorem yP_groups (c : Dev nD) (f : BufB F) :
    yP c Finset.univ f = iprop(yP c {0} f ∗ yP c (rg 1 6) f ∗ yP c (rg 6 11) f ∗ yP c (rg 11 16) f) := by
  rw [show (Finset.univ : Finset (Fin 16)) = {0} ∪ (rg 1 6 ∪ (rg 6 11 ∪ rg 11 16)) by decide,
    yP_union c (by decide), yP_union c (by decide), yP_union c (by decide)]

/-! ## Loads and stores of the staging buffers -/

/-- A load, at what it is known to read; -/
theorem load_eq (c : Dev nD) {s : Shape} {e : EltTy} (M : Memref sig .tc .vmem s e) {r : LoadRect s} {hl : M.view.LoadsAt r}
    {S : Finset (Idx (M.view.loc (c : Thread nD τ)))} {f : Buf (Elt F) (M.view.loc (c : Thread nD τ))} (X : r.shape.Idx → Elt F e)
    (hS : M.view.setOn r.set ⊆ S) (hX : M.view.readAt (Elt F) r f = X)
    {α : Type} {Q : α → sProp 𝕄} {k : (r.shape.Idx → Elt F e) → Prog (TpuEff nD τ sig (Elt F) Λ₀ .tc) α} :
    (M.view.loc (c : Thread nD τ) ↦[S]{fullShare} f)
      ⊢ iprop(((M.view.loc (c : Thread nD τ) ↦[S]{fullShare} f) -∗ wp frame (wpE (defs₀ (F := F)) 𝒱₀ (c : Thread nD τ) none) Set.univ (k X) Q)
        -∗ wp frame (wpE (defs₀ (F := F)) 𝒱₀ (c : Thread nD τ) none) Set.univ (.op (.load M r hl) k) Q) := by
  subst hX
  exact wp_load 𝒱₀ (c : Thread nD τ) none Set.univ hS
/-- the store of the whole output block. -/
theorem store_out (c : Dev nD) {f w : (cc0_stg3_0 : Ref sig .tc).ty.Contents (Elt F)} (h : ∀ x, (![0, 0] : Fin 2 → ℕ) x + S512x512.size x ≤ S512x512.size x)
    {hx : (oM.access (Rect.unit (s := S512x512) ![0, 0] S512x512.size h)).Stores Finset.univ}
    {hm : Finset.univ = Finset.univ ∨ ∀ a, (Rect.unit (s := S512x512) ![0, 0] S512x512.size h).stride a = 1}
    {α : Type} {Q : α → sProp 𝕄} {k : PUnit → Prog (TpuEff nD τ sig (Elt F) Λ₀ .tc) α} :
    stg c cc0_stg3_0 f ⊢ iprop((stg c cc0_stg3_0 w -∗ wp frame (wpE (defs₀ (F := F)) 𝒱₀ (c : Thread nD τ) none) Set.univ (k ⟨⟩) Q)
      -∗ wp frame (wpE (defs₀ (F := F)) 𝒱₀ (c : Thread nD τ) none) Set.univ
        (.op (.store oM (Rect.unit (s := S512x512) ![0, 0] S512x512.size h) w Finset.univ hx hm) k) Q) := by
  have e : (oM.access (Rect.unit (s := S512x512) ![0, 0] S512x512.size h)).write (Elt F) f w Finset.univ = w :=
    Memref.write_access_unit_zero_univ (Elt F) cc0_stg3_0 hz2 _ f w
  iintro H Hk
  iapply (wp_store 𝒱₀ (c : Thread nD τ) none Set.univ (m := oM) (r := Rect.unit (s := S512x512) ![0, 0] S512x512.size h) (Mk := Finset.univ) (Finset.subset_univ _)) $$ H; iintro H
  rw [e]
  iapply Hk; iexact H

/-! ## Slot by slot -/

/-- The results on a group of five slots are those slots of the device's results. -/
theorem YB_at (c : Dev nD) (o : ℕ) (h : o + 5 ≤ 16) (ho : o = 1 ∨ o = 6 ∨ o = 11) (p : Fin 5) (i : Fin 64) (j : Fin 512) :
    YG m o h c (ix3 p i j) = YB m c (ix3 (⟨o + p.val, by omega⟩ : Fin 16) i j) := by
  have hp := p.isLt
  have hg : grp o (o + p.val) = p := Fin.ext (by show (o + p.val - o) % 5 = p.val; omega)
  unfold YB
  show _ = if o + p.val < 1 then _ else if o + p.val < 6 then YG m 1 _ c (ix3 (grp 1 (o + p.val)) i j)
    else if o + p.val < 11 then YG m 6 _ c (ix3 (grp 6 (o + p.val)) i j) else YG m 11 _ c (ix3 (grp 11 (o + p.val)) i j)
  rcases ho with rfl | rfl | rfl
  · rw [if_neg (by omega), if_pos (by omega), hg]
  · rw [if_neg (by omega), if_neg (by omega), if_pos (by omega), hg]
  · rw [if_neg (by omega), if_neg (by omega), if_neg (by omega), hg]
/-- The results on the own tokens are slot `0` of the device's results. -/
theorem YB_at0 (c : Dev nD) (p : Fin 1) (i : Fin 64) (j : Fin 512) :
    Y0 m c (ix3 p i j) = YB m c (ix3 (⟨0 + p.val, by omega⟩ : Fin 16) i j) := by
  obtain rfl : p = 0 := Subsingleton.elim _ _
  exact (if_pos (show (0 + (0 : Fin 1).val) < 1 by decide)).symm

/-- A device's own slot `0` of tokens and of results is what it would have sent. -/
theorem RB_at0 (c : Dev nD) (h) (p : Fin 1) (i : Fin 65) (j : Fin 256) :
    k0_pay10 (sM.view.readAt (Elt F) (Rect.unit (s := S16x65x256) ![0, 0, 0] S1x65x256.size h).toLoadRect (SB m c)) (ix3 p i j)
      = RB m c (ix3 (⟨0 + p.val, by omega⟩ : Fin 16) i j) := by
  obtain rfl : p = 0 := Subsingleton.elim _ _
  rw [pay10_eq]
  refine (congrArg (SB m c) (emb_run 0 1 (by decide) h 0 i j)).trans ?_
  show _ = SB m (dv c 0) _
  rw [dv_zero]
  exact congrArg (fun s => SB m c (ix3 s i j)) (Fin.ext (show 0 + 0 = (16 - (0 + 0)) % 16 from rfl))
/-- The own results, copied over, are slot `0` of the returned results. -/
theorem YR_at0 (c : Dev nD) (h) (p : Fin 1) (i : Fin 64) (j : Fin 512) :
    k0_pay15 (yM.view.readAt (Elt F) (Rect.unit (s := S16x64x512) ![0, 0, 0] S1x64x512.size h).toLoadRect (YB m c)) (ix3 p i j)
      = YR m c (ix3 (⟨0 + p.val, by omega⟩ : Fin 16) i j) := by
  obtain rfl : p = 0 := Subsingleton.elim _ _
  rw [pay15_eq]
  refine (congrArg (YB m c) (emb_run 0 1 (by decide) h 0 i j)).trans ?_
  show _ = YB m (dv c 0) _
  rw [dv_zero]
  exact congrArg (fun s => YB m c (ix3 s i j)) (Fin.ext (show 0 + 0 = (16 - (0 + 0)) % 16 from rfl))

/-- Transfers of kind `0` leave the send buffer's slots; -/
theorem buf_s (c : Dev nD) (A) : buf m 0 c A = sP c A (SB m c) := rfl
/-- those of kind `1` fill the receive buffer's; -/
theorem buf_r (c : Dev nD) (A) : buf m 1 c A = rP c A (RB m c) := rfl
/-- those of kind `2` leave the result buffer's; -/
theorem buf_y (c : Dev nD) (A) : buf m 2 c A = yP c A (YB m c) := rfl
/-- those of kind `3` fill the returned results'. -/
theorem buf_t (c : Dev nD) (A) : buf m 3 c A = tP c A (YR m c) := rfl

/-! ## Loads from what has been received -/

/-- A load from received slots that have all been waited for. -/
theorem load_RB (c : Dev nD) (n : ℕ) (off sz : Fin 3 → ℕ) (h : ∀ x, off x + sz x ≤ S16x65x256.size x)
    {hl : rM.view.LoadsAt (Rect.unit (s := S16x65x256) off sz h).toLoadRect}
    (hA : ∀ s : Fin 16, off 0 ≤ s.val → s.val < off 0 + sz 0 → s ∈ got 1 Fin.rev n)
    {α : Type} {Q : α → sProp 𝕄} {k : ((Rect.unit (s := S16x65x256) off sz h).toLoadRect.shape.Idx → Elt F .bf16) → Prog (TpuEff nD τ sig (Elt F) Λ₀ .tc) α} :
    Wt m 1 Fin.rev c n ⊢ iprop((Wt m 1 Fin.rev c n -∗ wp frame (wpE (defs₀ (F := F)) 𝒱₀ (c : Thread nD τ) none) Set.univ
        (k (rM.view.readAt (Elt F) (Rect.unit (s := S16x65x256) off sz h).toLoadRect (RB m c))) Q)
      -∗ wp frame (wpE (defs₀ (F := F)) 𝒱₀ (c : Thread nD τ) none) Set.univ (.op (.load rM (Rect.unit (s := S16x65x256) off sz h).toLoadRect hl) k) Q) := by
  unfold Wt buf
  iintro ⟨H1, H2, H3⟩ Hk
  iapply (load_r c off sz h hA) $$ H3; iintro H3
  iapply Hk
  isplitl [H1]; · iexact H1
  isplitl [H2] <;> iassumption
/-- A load from returned results that have all been waited for. -/
theorem load_YR (c : Dev nD) (n : ℕ) (off sz : Fin 3 → ℕ) (h : ∀ x, off x + sz x ≤ S16x64x512.size x)
    {hl : tM.view.LoadsAt (Rect.unit (s := S16x64x512) off sz h).toLoadRect}
    (hA : ∀ s : Fin 16, off 0 ≤ s.val → s.val < off 0 + sz 0 → s ∈ got 3 ordR n)
    {α : Type} {Q : α → sProp 𝕄} {k : ((Rect.unit (s := S16x64x512) off sz h).toLoadRect.shape.Idx → Elt F .bf16) → Prog (TpuEff nD τ sig (Elt F) Λ₀ .tc) α} :
    Wt m 3 ordR c n ⊢ iprop((Wt m 3 ordR c n -∗ wp frame (wpE (defs₀ (F := F)) 𝒱₀ (c : Thread nD τ) none) Set.univ
        (k (tM.view.readAt (Elt F) (Rect.unit (s := S16x64x512) off sz h).toLoadRect (YR m c))) Q)
      -∗ wp frame (wpE (defs₀ (F := F)) 𝒱₀ (c : Thread nD τ) none) Set.univ (.op (.load tM (Rect.unit (s := S16x64x512) off sz h).toLoadRect hl) k) Q) := by
  unfold Wt buf
  iintro ⟨H1, H2, H3⟩ Hk
  iapply (load_t c off sz h hA) $$ H3; iintro H3
  iapply Hk
  isplitl [H1]; · iexact H1
  isplitl [H2] <;> iassumption

/-! ## The body -/

set_option maxHeartbeats 4000000 in
set_option maxRecDepth 8000 in
/-- The body on device `c`. -/
theorem sound_body (c : Dev nD) (d3 : (cc0_stg3_0 : Ref sig .tc).ty.Contents (Elt F)) (Kt : PUnit → sProp 𝕄) :
    iprop((ghost m K c ∗ creds c ∗ levAts L lv ∗ bufs c ∗ Owe c 0 0 0
        ∗ stg c cc0_stg0_0 (xv m c) ∗ stg c cc0_stg1_0 (iv m c) ∗ stg c cc0_stg2_0 (wv m c) ∗ stg c cc0_stg3_0 d3)
      ∗ ((bufs c ∗ zeros c ∗ Owe c 15 15 15
        ∗ stg c cc0_stg0_0 (xv m c) ∗ stg c cc0_stg1_0 (iv m c) ∗ stg c cc0_stg2_0 (wv m c) ∗ stg c cc0_stg3_0 (outAt m c)) -∗ Kt ⟨⟩))
      ⊢ wp frame (wpE (defs₀ (F := F)) 𝒱₀ (c : Thread nD τ) none) Set.univ
          (cc0_body xM (Memref.isWhole_whole _) iM (Memref.isWhole_whole _) wM (Memref.isWhole_whole _) oM (Memref.isWhole_whole _)
            sM (Memref.isWhole_whole _) rM (Memref.isWhole_whole _) yM (Memref.isWhole_whole _) tM (Memref.isWhole_whole _)
            cc0_scratch4 cc0_scratch5 cc0_scratch6 cc0_scratch7) Kt := by
  unfold ghost creds bufs
  iintro ⟨⟨⟨#HR, Hpb, ⟨HA0, HA1, HA2, HA3⟩, HTB, ⟨HS0, HR1⟩, HS2, HR3⟩, ⟨Hcb, HC1, HC3⟩, #Hlev, ⟨⟨%fs, Hs⟩, ⟨%fr, Hr⟩, ⟨%fy, Hy⟩, ⟨%ft, Ht⟩⟩, HO, Hx, Hi, Hw, Ho⟩, Hk⟩
  ihave Hsig := (Sig_intro (F := F) c fr ft) $$ [HTB Hr Ht]
  · isplitl [HTB]; · iexact HTB
    isplitl [Hr] <;> iassumption
  icases Hsig with ⟨HS, Hr, Ht⟩
  ihave Hys := (Entails.of_eq (yP_groups c fy)) $$ Hy
  icases Hys with ⟨Hy0, Hy1, Hy2, Hy3⟩
  rw [cc0_body_eq_skeleton]; unfold cc0_body_skel
  rw [k0_part41_eq_skeleton]; unfold k0_part41_skel
  rw [k0_part1_eq_skeleton]; unfold k0_part1_skel
  simp only [semSignalWord, semWaitWord, Prog.lift, Prog.bind_op, Prog.bind_ret, Prog.pure_eq_ret, wp_deviceId]
  iapply (one_by_one₃ (step_signal m K c _ 0 (by decide) (Fin.ext (k0_dev1_eq c)) 0 0)) $$ HR HO HS; iintro ⟨HO, HS⟩
  iapply (one_by_one₃ (step_signal m K c _ 1 (by decide) (Fin.ext (k0_dev2_eq c)) 0 0)) $$ HR HO HS; iintro ⟨HO, HS⟩
  iapply (one_by_one₃ (step_signal m K c _ 2 (by decide) (Fin.ext (k0_dev3_eq c)) 0 0)) $$ HR HO HS; iintro ⟨HO, HS⟩
  iapply (one_by_one₃ (step_signal m K c _ 3 (by decide) (Fin.ext (k0_dev4_eq c)) 0 0)) $$ HR HO HS; iintro ⟨HO, HS⟩
  iapply (one_by_one₃ (step_signal m K c _ 4 (by decide) (Fin.ext (k0_dev5_eq c)) 0 0)) $$ HR HO HS; iintro ⟨HO, HS⟩
  simp only [Prog.bind_ret]
  rw [k0_part2_eq_skeleton]; unfold k0_part2_skel
  simp only [semSignalWord, semWaitWord, Prog.lift, Prog.bind_op, Prog.bind_ret, Prog.pure_eq_ret]
  iapply (one_by_one₃ (step_signal m K c _ 5 (by decide) (Fin.ext (k0_dev6_eq c)) 0 0)) $$ HR HO HS; iintro ⟨HO, HS⟩
  iapply (one_by_one₃ (step_signal m K c _ 6 (by decide) (Fin.ext (k0_dev7_eq c)) 0 0)) $$ HR HO HS; iintro ⟨HO, HS⟩
  iapply (one_by_one₃ (step_signal m K c _ 7 (by decide) (Fin.ext (k0_dev8_eq c)) 0 0)) $$ HR HO HS; iintro ⟨HO, HS⟩
  iapply (one_by_one₃ (step_signal m K c _ 8 (by decide) (Fin.ext (k0_dev9_eq c)) 0 0)) $$ HR HO HS; iintro ⟨HO, HS⟩
  iapply (one_by_one₃ (step_signal m K c _ 9 (by decide) (Fin.ext (k0_dev10_eq c)) 0 0)) $$ HR HO HS; iintro ⟨HO, HS⟩
  iapply (one_by_one₃ (step_signal m K c _ 10 (by decide) (Fin.ext (k0_dev11_eq c)) 0 0)) $$ HR HO HS; iintro ⟨HO, HS⟩
  simp only [Prog.bind_ret]
  rw [k0_part3_eq_skeleton]; unfold k0_part3_skel
  simp only [semSignalWord, semWaitWord, Prog.lift, Prog.bind_op, Prog.bind_ret, Prog.pure_eq_ret]
  iapply (one_by_one₃ (step_signal m K c _ 11 (by decide) (Fin.ext (k0_dev12_eq c)) 0 0)) $$ HR HO HS; iintro ⟨HO, HS⟩
  iapply (one_by_one₃ (step_signal m K c _ 12 (by decide) (Fin.ext (k0_dev13_eq c)) 0 0)) $$ HR HO HS; iintro ⟨HO, HS⟩
  iapply (one_by_one₃ (step_signal m K c _ 13 (by decide) (Fin.ext (k0_dev14_eq c)) 0 0)) $$ HR HO HS; iintro ⟨HO, HS⟩
  iapply (one_by_one₃ (step_signal m K c _ 14 (by decide) (Fin.ext (k0_dev15_eq c)) 0 0)) $$ HR HO HS; iintro ⟨HO, HS⟩
  iapply (load_eq c iM (iv m c) (Finset.subset_univ _) (Memref.readAt_unit_zero (Elt F) cc0_stg1_0 hz2 _ _)) $$ Hi; iintro Hi
  simp only [Prog.bind_ret]
  rw [k0_part4_eq_skeleton]; unfold k0_part4_skel
  simp only [semSignalWord, semWaitWord, Prog.lift, Prog.bind_op, Prog.bind_ret, Prog.pure_eq_ret]
  iapply (load_eq c xM (xv m c) (Finset.subset_univ _) (Memref.readAt_unit_zero (Elt F) cc0_stg0_0 hz2 _ _)) $$ Hx; iintro Hx
  simp only [Prog.bind_ret]
  rw [k0_part5_eq_skeleton]; unfold k0_part5_skel
  simp only [semSignalWord, semWaitWord, Prog.lift, Prog.bind_op, Prog.bind_ret, Prog.pure_eq_ret]
  iapply (load_s c (A := Finset.univ) ![0, 0, 0] ![16, 65, 256] _ (by decide)) $$ Hs; iintro Hs
  iapply (store_s c (w := SB m c) _) $$ Hs; iintro Hs
  iapply (one_by_one₅ (step_bar m K c)) $$ HR Hlev HO Hcb Hpb; iintro ⟨HO, Hzb, Hpay⟩
  ihave Hp := (Entails.of_eq (barPays (F := F) c)) $$ Hpay
  icases Hp with ⟨HpA, HpB⟩
  ihave HSnd := (Snd_intro m c) $$ [HS0 HR1 HpA Hs]
  · isplitl [HS0]; · iexact HS0
    isplitl [HR1]; · iexact HR1
    isplitl [HpA] <;> iassumption
  icases HSnd with ⟨HSnd, Hs⟩
  ihave HRet := (Ret_intro (F := F) c) $$ [HS2 HR3 HpB]
  · isplitl [HS2]; · iexact HS2
    isplitl [HR3] <;> iassumption
  iapply (one_by_one₃ (step_send m K c _ 0 1 15 (by decide) rfl rfl (Fin.ext (k0_dev16_eq c)) 0 (sem_ss 0 (by decide) _) (sem_sr 0 (by decide) _))) $$ HR HO HSnd; iintro ⟨HO, HSnd⟩
  simp only [Prog.bind_ret]
  rw [k0_part6_eq_skeleton]; unfold k0_part6_skel
  simp only [semSignalWord, semWaitWord, Prog.lift, Prog.bind_op, Prog.bind_ret, Prog.pure_eq_ret]
  iapply (one_by_one₃ (step_send m K c _ 1 2 14 (by decide) rfl rfl (Fin.ext (k0_dev17_eq c)) 0 (sem_ss 1 (by decide) _) (sem_sr 1 (by decide) _))) $$ HR HO HSnd; iintro ⟨HO, HSnd⟩
  iapply (one_by_one₃ (step_send m K c _ 2 3 13 (by decide) rfl rfl (Fin.ext (k0_dev18_eq c)) 0 (sem_ss 2 (by decide) _) (sem_sr 2 (by decide) _))) $$ HR HO HSnd; iintro ⟨HO, HSnd⟩
  simp only [Prog.bind_ret]
  rw [k0_part7_eq_skeleton]; unfold k0_part7_skel
  simp only [semSignalWord, semWaitWord, Prog.lift, Prog.bind_op, Prog.bind_ret, Prog.pure_eq_ret]
  iapply (one_by_one₃ (step_send m K c _ 3 4 12 (by decide) rfl rfl (Fin.ext (k0_dev19_eq c)) 0 (sem_ss 3 (by decide) _) (sem_sr 3 (by decide) _))) $$ HR HO HSnd; iintro ⟨HO, HSnd⟩
  iapply (one_by_one₃ (step_send m K c _ 4 5 11 (by decide) rfl rfl (Fin.ext (k0_dev20_eq c)) 0 (sem_ss 4 (by decide) _) (sem_sr 4 (by decide) _))) $$ HR HO HSnd; iintro ⟨HO, HSnd⟩
  iapply (one_by_one₃ (step_send m K c _ 5 6 10 (by decide) rfl rfl (Fin.ext (k0_dev21_eq c)) 0 (sem_ss 5 (by decide) _) (sem_sr 5 (by decide) _))) $$ HR HO HSnd; iintro ⟨HO, HSnd⟩
  simp only [Prog.bind_ret]
  rw [k0_part8_eq_skeleton]; unfold k0_part8_skel
  simp only [semSignalWord, semWaitWord, Prog.lift, Prog.bind_op, Prog.bind_ret, Prog.pure_eq_ret]
  iapply (one_by_one₃ (step_send m K c _ 6 7 9 (by decide) rfl rfl (Fin.ext (k0_dev22_eq c)) 0 (sem_ss 6 (by decide) _) (sem_sr 6 (by decide) _))) $$ HR HO HSnd; iintro ⟨HO, HSnd⟩
  iapply (one_by_one₃ (step_send m K c _ 7 8 8 (by decide) rfl rfl (Fin.ext (k0_dev23_eq c)) 0 (sem_ss 7 (by decide) _) (sem_sr 7 (by decide) _))) $$ HR HO HSnd; iintro ⟨HO, HSnd⟩
  simp only [Prog.bind_ret]
  rw [k0_part9_eq_skeleton]; unfold k0_part9_skel
  simp only [semSignalWord, semWaitWord, Prog.lift, Prog.bind_op, Prog.bind_ret, Prog.pure_eq_ret]
  iapply (one_by_one₃ (step_send m K c _ 8 9 7 (by decide) rfl rfl (Fin.ext (k0_dev24_eq c)) 0 (sem_ss 8 (by decide) _) (sem_sr 8 (by decide) _))) $$ HR HO HSnd; iintro ⟨HO, HSnd⟩
  iapply (one_by_one₃ (step_send m K c _ 9 10 6 (by decide) rfl rfl (Fin.ext (k0_dev25_eq c)) 0 (sem_ss 9 (by decide) _) (sem_sr 9 (by decide) _))) $$ HR HO HSnd; iintro ⟨HO, HSnd⟩
  iapply (one_by_one₃ (step_send m K c _ 10 11 5 (by decide) rfl rfl (Fin.ext (k0_dev26_eq c)) 0 (sem_ss 10 (by decide) _) (sem_sr 10 (by decide) _))) $$ HR HO HSnd; iintro ⟨HO, HSnd⟩
  simp only [Prog.bind_ret]
  rw [k0_part10_eq_skeleton]; unfold k0_part10_skel
  simp only [semSignalWord, semWaitWord, Prog.lift, Prog.bind_op, Prog.bind_ret, Prog.pure_eq_ret]
  iapply (one_by_one₃ (step_send m K c _ 11 12 4 (by decide) rfl rfl (Fin.ext (k0_dev27_eq c)) 0 (sem_ss 11 (by decide) _) (sem_sr 11 (by decide) _))) $$ HR HO HSnd; iintro ⟨HO, HSnd⟩
  iapply (one_by_one₃ (step_send m K c _ 12 13 3 (by decide) rfl rfl (Fin.ext (k0_dev28_eq c)) 0 (sem_ss 12 (by decide) _) (sem_sr 12 (by decide) _))) $$ HR HO HSnd; iintro ⟨HO, HSnd⟩
  simp only [Prog.bind_ret]
  rw [k0_part11_eq_skeleton]; unfold k0_part11_skel
  simp only [semSignalWord, semWaitWord, Prog.lift, Prog.bind_op, Prog.bind_ret, Prog.pure_eq_ret]
  iapply (one_by_one₃ (step_send m K c _ 13 14 2 (by decide) rfl rfl (Fin.ext (k0_dev29_eq c)) 0 (sem_ss 13 (by decide) _) (sem_sr 13 (by decide) _))) $$ HR HO HSnd; iintro ⟨HO, HSnd⟩
  iapply (one_by_one₃ (step_send m K c _ 14 15 1 (by decide) rfl rfl (Fin.ext (k0_dev30_eq c)) 0 (sem_ss 14 (by decide) _) (sem_sr 14 (by decide) _))) $$ HR HO HSnd; iintro ⟨HO, HSnd⟩
  iapply (load_s c (A := {0}) ![0, 0, 0] ![1, 65, 256] _ (by decide)) $$ Hs; iintro Hs
  iapply (load_r c (A := {0}) ![0, 0, 0] ![1, 65, 256] _ (by decide)) $$ Hr; iintro Hr
  iapply (store_r c (A := {0}) (RB m c) 0 1 (by decide) _ (by decide) (RB_at0 m c _)) $$ Hr; iintro Hr
  ihave W1 := (Wt_intro m 1 Fin.rev_injective c) $$ [HC1 HA1 Hr]
  · isplitl [HC1]; · iexact HC1
    isplitl [HA1]; · iexact HA1
    iapply (Entails.of_eq (buf_r m c _).symm); iexact Hr
  iapply (load_eq c wM (wv m c) (Finset.subset_univ _) (Memref.readAt_unit_zero (Elt F) cc0_stg2_0 hz3 _ _)) $$ Hw; iintro Hw
  simp only [Prog.bind_ret]
  rw [k0_part12_eq_skeleton]; unfold k0_part12_skel
  simp only [semSignalWord, semWaitWord, Prog.lift, Prog.bind_op, Prog.bind_ret, Prog.pure_eq_ret]
  iapply (load_RB m c 0 ![0, 0, 0] ![1, 64, 256] _ (by decide)) $$ W1; iintro W1
  iapply (load_y c (A := {0}) ![0, 0, 0] ![1, 64, 512] _ (by decide)) $$ Hy0; iintro Hy0
  iapply (store_y c (A := {0}) (YB m c) 0 1 (by decide) _ (by decide) (YB_at0 m c)) $$ Hy0; iintro Hy0
  iapply (load_y c (A := {0}) ![0, 0, 0] ![1, 64, 512] _ (by decide)) $$ Hy0; iintro Hy0
  iapply (load_t c (A := {0}) ![0, 0, 0] ![1, 64, 512] _ (by decide)) $$ Ht; iintro Ht
  iapply (store_t c (A := {0}) (YR m c) 0 1 (by decide) _ (by decide) (YR_at0 m c _)) $$ Ht; iintro Ht
  simp only [Prog.bind_ret]
  rw [k0_part13_eq_skeleton]; unfold k0_part13_skel
  simp only [semSignalWord, semWaitWord, Prog.lift, Prog.bind_op, Prog.bind_ret, Prog.pure_eq_ret]
  iapply (one_by_one₄ (step_wait m K 1 Fin.rev_injective c 0 (by decide) 0 (.inl (by decide)) (sem_sr 14 (by decide) _) (creditA_r _ _))) $$ HR Hlev HO W1; iintro ⟨HO, W1⟩
  iapply (one_by_one₄ (step_wait m K 1 Fin.rev_injective c 1 (by decide) 0 (.inl (by decide)) (sem_sr 13 (by decide) _) (creditA_r _ _))) $$ HR Hlev HO W1; iintro ⟨HO, W1⟩
  iapply (one_by_one₄ (step_wait m K 1 Fin.rev_injective c 2 (by decide) 0 (.inl (by decide)) (sem_sr 12 (by decide) _) (creditA_r _ _))) $$ HR Hlev HO W1; iintro ⟨HO, W1⟩
  simp only [Prog.bind_ret]
  rw [k0_part14_eq_skeleton]; unfold k0_part14_skel
  simp only [semSignalWord, semWaitWord, Prog.lift, Prog.bind_op, Prog.bind_ret, Prog.pure_eq_ret]
  iapply (one_by_one₄ (step_wait m K 1 Fin.rev_injective c 3 (by decide) 0 (.inl (by decide)) (sem_sr 11 (by decide) _) (creditA_r _ _))) $$ HR Hlev HO W1; iintro ⟨HO, W1⟩
  iapply (one_by_one₄ (step_wait m K 1 Fin.rev_injective c 4 (by decide) 0 (.inl (by decide)) (sem_sr 10 (by decide) _) (creditA_r _ _))) $$ HR Hlev HO W1; iintro ⟨HO, W1⟩
  iapply (load_RB m c 5 ![1, 64, 0] ![5, 1, 256] _ (by decide)) $$ W1; iintro W1
  simp only [Prog.bind_ret]
  rw [k0_part15_eq_skeleton]; unfold k0_part15_skel
  simp only [semSignalWord, semWaitWord, Prog.lift, Prog.bind_op, Prog.bind_ret, Prog.pure_eq_ret]
  iapply (load_RB m c 5 ![1, 0, 0] ![5, 64, 256] _ (by decide)) $$ W1; iintro W1
  iapply (load_y c (A := rg 1 6) ![1, 0, 0] ![5, 64, 512] _ (by decide)) $$ Hy1; iintro Hy1
  iapply (store_y c (A := rg 1 6) (YB m c) 1 5 (by decide) _ (by decide) (YB_at m c 1 (by decide) (by decide))) $$ Hy1; iintro Hy1
  simp only [Prog.bind_ret]
  rw [k0_part16_eq_skeleton]; unfold k0_part16_skel
  simp only [semSignalWord, semWaitWord, Prog.lift, Prog.bind_op, Prog.bind_ret, Prog.pure_eq_ret]
  iapply (one_by_one₄ (step_ret m K c _ 0 1 15 (by decide) rfl rfl (Fin.ext (k0_dev31_eq c)) 6 (by decide) (sem_rs 0 (by decide) _) (sem_rr 0 (by decide) _))) $$ HR HO HRet Hy1; iintro ⟨HO, HRet, Hy1⟩
  iapply (one_by_one₄ (step_ret m K c _ 1 2 14 (by decide) rfl rfl (Fin.ext (k0_dev32_eq c)) 6 (by decide) (sem_rs 1 (by decide) _) (sem_rr 1 (by decide) _))) $$ HR HO HRet Hy1; iintro ⟨HO, HRet, Hy1⟩
  iapply (one_by_one₄ (step_ret m K c _ 2 3 13 (by decide) rfl rfl (Fin.ext (k0_dev33_eq c)) 6 (by decide) (sem_rs 2 (by decide) _) (sem_rr 2 (by decide) _))) $$ HR HO HRet Hy1; iintro ⟨HO, HRet, Hy1⟩
  simp only [Prog.bind_ret]
  rw [k0_part17_eq_skeleton]; unfold k0_part17_skel
  simp only [semSignalWord, semWaitWord, Prog.lift, Prog.bind_op, Prog.bind_ret, Prog.pure_eq_ret]
  iapply (one_by_one₄ (step_ret m K c _ 3 4 12 (by decide) rfl rfl (Fin.ext (k0_dev34_eq c)) 6 (by decide) (sem_rs 3 (by decide) _) (sem_rr 3 (by decide) _))) $$ HR HO HRet Hy1; iintro ⟨HO, HRet, Hy1⟩
  iapply (one_by_one₄ (step_ret m K c _ 4 5 11 (by decide) rfl rfl (Fin.ext (k0_dev35_eq c)) 6 (by decide) (sem_rs 4 (by decide) _) (sem_rr 4 (by decide) _))) $$ HR HO HRet Hy1; iintro ⟨HO, HRet, Hy1⟩
  simp only [Prog.bind_ret]
  rw [k0_part18_eq_skeleton]; unfold k0_part18_skel
  simp only [semSignalWord, semWaitWord, Prog.lift, Prog.bind_op, Prog.bind_ret, Prog.pure_eq_ret]
  iapply (one_by_one₄ (step_wait m K 1 Fin.rev_injective c 5 (by decide) 5 (.inl (by decide)) (sem_sr 9 (by decide) _) (creditA_r _ _))) $$ HR Hlev HO W1; iintro ⟨HO, W1⟩
  iapply (one_by_one₄ (step_wait m K 1 Fin.rev_injective c 6 (by decide) 5 (.inl (by decide)) (sem_sr 8 (by decide) _) (creditA_r _ _))) $$ HR Hlev HO W1; iintro ⟨HO, W1⟩
  iapply (one_by_one₄ (step_wait m K 1 Fin.rev_injective c 7 (by decide) 5 (.inl (by decide)) (sem_sr 7 (by decide) _) (creditA_r _ _))) $$ HR Hlev HO W1; iintro ⟨HO, W1⟩
  iapply (one_by_one₄ (step_wait m K 1 Fin.rev_injective c 8 (by decide) 5 (.inl (by decide)) (sem_sr 6 (by decide) _) (creditA_r _ _))) $$ HR Hlev HO W1; iintro ⟨HO, W1⟩
  simp only [Prog.bind_ret]
  rw [k0_part19_eq_skeleton]; unfold k0_part19_skel
  simp only [semSignalWord, semWaitWord, Prog.lift, Prog.bind_op, Prog.bind_ret, Prog.pure_eq_ret]
  iapply (one_by_one₄ (step_wait m K 1 Fin.rev_injective c 9 (by decide) 5 (.inl (by decide)) (sem_sr 5 (by decide) _) (creditA_r _ _))) $$ HR Hlev HO W1; iintro ⟨HO, W1⟩
  iapply (load_RB m c 10 ![6, 64, 0] ![5, 1, 256] _ (by decide)) $$ W1; iintro W1
  iapply (load_RB m c 10 ![6, 0, 0] ![5, 64, 256] _ (by decide)) $$ W1; iintro W1
  simp only [Prog.bind_ret]
  rw [k0_part20_eq_skeleton]; unfold k0_part20_skel
  simp only [semSignalWord, semWaitWord, Prog.lift, Prog.bind_op, Prog.bind_ret, Prog.pure_eq_ret]
  iapply (load_y c (A := rg 6 11) ![6, 0, 0] ![5, 64, 512] _ (by decide)) $$ Hy2; iintro Hy2
  iapply (store_y c (A := rg 6 11) (YB m c) 6 5 (by decide) _ (by decide) (YB_at m c 6 (by decide) (by decide))) $$ Hy2; iintro Hy2
  iapply (one_by_one₄ (step_ret m K c _ 5 6 10 (by decide) rfl rfl (Fin.ext (k0_dev36_eq c)) 11 (by decide) (sem_rs 5 (by decide) _) (sem_rr 5 (by decide) _))) $$ HR HO HRet Hy2; iintro ⟨HO, HRet, Hy2⟩
  simp only [Prog.bind_ret]
  rw [k0_part21_eq_skeleton]; unfold k0_part21_skel
  simp only [semSignalWord, semWaitWord, Prog.lift, Prog.bind_op, Prog.bind_ret, Prog.pure_eq_ret]
  iapply (one_by_one₄ (step_ret m K c _ 6 7 9 (by decide) rfl rfl (Fin.ext (k0_dev37_eq c)) 11 (by decide) (sem_rs 6 (by decide) _) (sem_rr 6 (by decide) _))) $$ HR HO HRet Hy2; iintro ⟨HO, HRet, Hy2⟩
  iapply (one_by_one₄ (step_ret m K c _ 7 8 8 (by decide) rfl rfl (Fin.ext (k0_dev38_eq c)) 11 (by decide) (sem_rs 7 (by decide) _) (sem_rr 7 (by decide) _))) $$ HR HO HRet Hy2; iintro ⟨HO, HRet, Hy2⟩
  simp only [Prog.bind_ret]
  rw [k0_part22_eq_skeleton]; unfold k0_part22_skel
  simp only [semSignalWord, semWaitWord, Prog.lift, Prog.bind_op, Prog.bind_ret, Prog.pure_eq_ret]
  iapply (one_by_one₄ (step_ret m K c _ 8 9 7 (by decide) rfl rfl (Fin.ext (k0_dev39_eq c)) 11 (by decide) (sem_rs 8 (by decide) _) (sem_rr 8 (by decide) _))) $$ HR HO HRet Hy2; iintro ⟨HO, HRet, Hy2⟩
  iapply (one_by_one₄ (step_ret m K c _ 9 10 6 (by decide) rfl rfl (Fin.ext (k0_dev40_eq c)) 11 (by decide) (sem_rs 9 (by decide) _) (sem_rr 9 (by decide) _))) $$ HR HO HRet Hy2; iintro ⟨HO, HRet, Hy2⟩
  iapply (one_by_one₄ (step_wait m K 1 Fin.rev_injective c 10 (by decide) 10 (.inl (by decide)) (sem_sr 4 (by decide) _) (creditA_r _ _))) $$ HR Hlev HO W1; iintro ⟨HO, W1⟩
  simp only [Prog.bind_ret]
  rw [k0_part23_eq_skeleton]; unfold k0_part23_skel
  simp only [semSignalWord, semWaitWord, Prog.lift, Prog.bind_op, Prog.bind_ret, Prog.pure_eq_ret]
  iapply (one_by_one₄ (step_wait m K 1 Fin.rev_injective c 11 (by decide) 10 (.inl (by decide)) (sem_sr 3 (by decide) _) (creditA_r _ _))) $$ HR Hlev HO W1; iintro ⟨HO, W1⟩
  iapply (one_by_one₄ (step_wait m K 1 Fin.rev_injective c 12 (by decide) 10 (.inl (by decide)) (sem_sr 2 (by decide) _) (creditA_r _ _))) $$ HR Hlev HO W1; iintro ⟨HO, W1⟩
  iapply (one_by_one₄ (step_wait m K 1 Fin.rev_injective c 13 (by decide) 10 (.inl (by decide)) (sem_sr 1 (by decide) _) (creditA_r _ _))) $$ HR Hlev HO W1; iintro ⟨HO, W1⟩
  simp only [Prog.bind_ret]
  rw [k0_part24_eq_skeleton]; unfold k0_part24_skel
  simp only [semSignalWord, semWaitWord, Prog.lift, Prog.bind_op, Prog.bind_ret, Prog.pure_eq_ret]
  iapply (one_by_one₄ (step_wait m K 1 Fin.rev_injective c 14 (by decide) 10 (.inl (by decide)) (sem_sr 0 (by decide) _) (creditA_r _ _))) $$ HR Hlev HO W1; iintro ⟨HO, W1⟩
  iapply (load_RB m c 15 ![11, 64, 0] ![5, 1, 256] _ (by decide)) $$ W1; iintro W1
  iapply (load_RB m c 15 ![11, 0, 0] ![5, 64, 256] _ (by decide)) $$ W1; iintro W1
  simp only [Prog.bind_ret]
  rw [k0_part25_eq_skeleton]; unfold k0_part25_skel
  simp only [semSignalWord, semWaitWord, Prog.lift, Prog.bind_op, Prog.bind_ret, Prog.pure_eq_ret]
  iapply (load_y c (A := rg 11 16) ![11, 0, 0] ![5, 64, 512] _ (by decide)) $$ Hy3; iintro Hy3
  iapply (store_y c (A := rg 11 16) (YB m c) 11 5 (by decide) _ (by decide) (YB_at m c 11 (by decide) (by decide))) $$ Hy3; iintro Hy3
  iapply (one_by_one₄ (step_ret m K c _ 10 11 5 (by decide) rfl rfl (Fin.ext (k0_dev41_eq c)) 16 (by decide) (sem_rs 10 (by decide) _) (sem_rr 10 (by decide) _))) $$ HR HO HRet Hy3; iintro ⟨HO, HRet, Hy3⟩
  simp only [Prog.bind_ret]
  rw [k0_part26_eq_skeleton]; unfold k0_part26_skel
  simp only [semSignalWord, semWaitWord, Prog.lift, Prog.bind_op, Prog.bind_ret, Prog.pure_eq_ret]
  iapply (one_by_one₄ (step_ret m K c _ 11 12 4 (by decide) rfl rfl (Fin.ext (k0_dev42_eq c)) 16 (by decide) (sem_rs 11 (by decide) _) (sem_rr 11 (by decide) _))) $$ HR HO HRet Hy3; iintro ⟨HO, HRet, Hy3⟩
  iapply (one_by_one₄ (step_ret m K c _ 12 13 3 (by decide) rfl rfl (Fin.ext (k0_dev43_eq c)) 16 (by decide) (sem_rs 12 (by decide) _) (sem_rr 12 (by decide) _))) $$ HR HO HRet Hy3; iintro ⟨HO, HRet, Hy3⟩
  iapply (one_by_one₄ (step_ret m K c _ 13 14 2 (by decide) rfl rfl (Fin.ext (k0_dev44_eq c)) 16 (by decide) (sem_rs 13 (by decide) _) (sem_rr 13 (by decide) _))) $$ HR HO HRet Hy3; iintro ⟨HO, HRet, Hy3⟩
  simp only [Prog.bind_ret]
  rw [k0_part27_eq_skeleton]; unfold k0_part27_skel
  simp only [semSignalWord, semWaitWord, Prog.lift, Prog.bind_op, Prog.bind_ret, Prog.pure_eq_ret]
  iapply (one_by_one₄ (step_ret m K c _ 14 15 1 (by decide) rfl rfl (Fin.ext (k0_dev45_eq c)) 16 (by decide) (sem_rs 14 (by decide) _) (sem_rr 14 (by decide) _))) $$ HR HO HRet Hy3; iintro ⟨HO, HRet, Hy3⟩
  ihave W3 := (Wt_intro m 3 ordR_inj c) $$ [HC3 HA3 Ht]
  · isplitl [HC3]; · iexact HC3
    isplitl [HA3]; · iexact HA3
    iapply (Entails.of_eq (buf_t m c _).symm); iexact Ht
  iapply (one_by_one₄ (step_wait m K 3 ordR_inj c 0 (by decide) 15 (.inr up_all) (sem_rr 3 (by decide) _) (creditB_t _ _))) $$ HR Hlev HO W3; iintro ⟨HO, W3⟩
  iapply (one_by_one₄ (step_wait m K 3 ordR_inj c 1 (by decide) 15 (.inr up_all) (sem_rr 2 (by decide) _) (creditB_t _ _))) $$ HR Hlev HO W3; iintro ⟨HO, W3⟩
  simp only [Prog.bind_ret]
  rw [k0_part28_eq_skeleton]; unfold k0_part28_skel
  simp only [semSignalWord, semWaitWord, Prog.lift, Prog.bind_op, Prog.bind_ret, Prog.pure_eq_ret]
  iapply (one_by_one₄ (step_wait m K 3 ordR_inj c 2 (by decide) 15 (.inr up_all) (sem_rr 1 (by decide) _) (creditB_t _ _))) $$ HR Hlev HO W3; iintro ⟨HO, W3⟩
  iapply (one_by_one₄ (step_wait m K 3 ordR_inj c 3 (by decide) 15 (.inr up_all) (sem_rr 0 (by decide) _) (creditB_t _ _))) $$ HR Hlev HO W3; iintro ⟨HO, W3⟩
  iapply (load_YR m c 4 ![12, 0, 0] ![4, 64, 512] _ (by decide)) $$ W3; iintro W3
  iapply (one_by_one₄ (step_wait m K 3 ordR_inj c 4 (by decide) 15 (.inr up_all) (sem_rr 7 (by decide) _) (creditB_t _ _))) $$ HR Hlev HO W3; iintro ⟨HO, W3⟩
  simp only [Prog.bind_ret]
  rw [k0_part29_eq_skeleton]; unfold k0_part29_skel
  simp only [semSignalWord, semWaitWord, Prog.lift, Prog.bind_op, Prog.bind_ret, Prog.pure_eq_ret]
  iapply (one_by_one₄ (step_wait m K 3 ordR_inj c 5 (by decide) 15 (.inr up_all) (sem_rr 6 (by decide) _) (creditB_t _ _))) $$ HR Hlev HO W3; iintro ⟨HO, W3⟩
  iapply (one_by_one₄ (step_wait m K 3 ordR_inj c 6 (by decide) 15 (.inr up_all) (sem_rr 5 (by decide) _) (creditB_t _ _))) $$ HR Hlev HO W3; iintro ⟨HO, W3⟩
  iapply (one_by_one₄ (step_wait m K 3 ordR_inj c 7 (by decide) 15 (.inr up_all) (sem_rr 4 (by decide) _) (creditB_t _ _))) $$ HR Hlev HO W3; iintro ⟨HO, W3⟩
  simp only [Prog.bind_ret]
  rw [k0_part30_eq_skeleton]; unfold k0_part30_skel
  simp only [semSignalWord, semWaitWord, Prog.lift, Prog.bind_op, Prog.bind_ret, Prog.pure_eq_ret]
  iapply (load_YR m c 8 ![8, 0, 0] ![4, 64, 512] _ (by decide)) $$ W3; iintro W3
  iapply (one_by_one₄ (step_wait m K 3 ordR_inj c 8 (by decide) 15 (.inr up_all) (sem_rr 11 (by decide) _) (creditB_t _ _))) $$ HR Hlev HO W3; iintro ⟨HO, W3⟩
  iapply (one_by_one₄ (step_wait m K 3 ordR_inj c 9 (by decide) 15 (.inr up_all) (sem_rr 10 (by decide) _) (creditB_t _ _))) $$ HR Hlev HO W3; iintro ⟨HO, W3⟩
  simp only [Prog.bind_ret]
  rw [k0_part31_eq_skeleton]; unfold k0_part31_skel
  simp only [semSignalWord, semWaitWord, Prog.lift, Prog.bind_op, Prog.bind_ret, Prog.pure_eq_ret]
  iapply (one_by_one₄ (step_wait m K 3 ordR_inj c 10 (by decide) 15 (.inr up_all) (sem_rr 9 (by decide) _) (creditB_t _ _))) $$ HR Hlev HO W3; iintro ⟨HO, W3⟩
  iapply (one_by_one₄ (step_wait m K 3 ordR_inj c 11 (by decide) 15 (.inr up_all) (sem_rr 8 (by decide) _) (creditB_t _ _))) $$ HR Hlev HO W3; iintro ⟨HO, W3⟩
  iapply (load_YR m c 12 ![4, 0, 0] ![4, 64, 512] _ (by decide)) $$ W3; iintro W3
  iapply (one_by_one₄ (step_wait m K 3 ordR_inj c 12 (by decide) 15 (.inr up_all) (sem_rr 14 (by decide) _) (creditB_t _ _))) $$ HR Hlev HO W3; iintro ⟨HO, W3⟩
  simp only [Prog.bind_ret]
  rw [k0_part32_eq_skeleton]; unfold k0_part32_skel
  simp only [semSignalWord, semWaitWord, Prog.lift, Prog.bind_op, Prog.bind_ret, Prog.pure_eq_ret]
  iapply (one_by_one₄ (step_wait m K 3 ordR_inj c 13 (by decide) 15 (.inr up_all) (sem_rr 13 (by decide) _) (creditB_t _ _))) $$ HR Hlev HO W3; iintro ⟨HO, W3⟩
  iapply (one_by_one₄ (step_wait m K 3 ordR_inj c 14 (by decide) 15 (.inr up_all) (sem_rr 12 (by decide) _) (creditB_t _ _))) $$ HR Hlev HO W3; iintro ⟨HO, W3⟩
  iapply (load_YR m c 15 ![0, 0, 0] ![4, 64, 512] _ (by decide)) $$ W3; iintro W3
  iapply (load_RB m c 15 ![0, 64, 0] ![16, 1, 256] _ (by decide)) $$ W1; iintro W1
  simp only [Prog.bind_ret]
  rw [k0_part33_eq_skeleton]; unfold k0_part33_skel
  simp only [semSignalWord, semWaitWord, Prog.lift, Prog.bind_op, Prog.bind_ret, Prog.pure_eq_ret]
  iapply (load_eq c oM d3 (Finset.subset_univ _) (Memref.readAt_unit_zero (Elt F) cc0_stg3_0 hz2 _ _)) $$ Ho; iintro Ho
  iapply (store_out c (w := outAt m c) _) $$ Ho; iintro Ho
  ihave HC0 := (Snd_done m c) $$ HSnd
  ihave W0 := (Wt_intro m 0 Function.injective_id c) $$ [HC0 HA0 Hs]
  · isplitl [HC0]; · iexact HC0
    isplitl [HA0]; · iexact HA0
    iapply (Entails.of_eq (buf_s m c _).symm); iexact Hs
  ihave HC2 := (Ret_done (F := F) c) $$ HRet
  ihave W2 := (Wt_intro m 2 Function.injective_id c) $$ [HC2 HA2 Hy0]
  · isplitl [HC2]; · iexact HC2
    isplitl [HA2]; · iexact HA2
    iapply (Entails.of_eq (buf_y m c _).symm); iexact Hy0
  iapply (one_by_one₄ (step_wait m K 0 Function.injective_id c 0 (by decide) 15 (.inl (by decide)) (sem_ss 0 (by decide) _) (creditA_s _ _))) $$ HR Hlev HO W0; iintro ⟨HO, W0⟩
  iapply (one_by_one₄ (step_wait m K 0 Function.injective_id c 1 (by decide) 15 (.inl (by decide)) (sem_ss 1 (by decide) _) (creditA_s _ _))) $$ HR Hlev HO W0; iintro ⟨HO, W0⟩
  simp only [Prog.bind_ret]
  rw [k0_part34_eq_skeleton]; unfold k0_part34_skel
  simp only [semSignalWord, semWaitWord, Prog.lift, Prog.bind_op, Prog.bind_ret, Prog.pure_eq_ret]
  iapply (one_by_one₄ (step_wait m K 0 Function.injective_id c 2 (by decide) 15 (.inl (by decide)) (sem_ss 2 (by decide) _) (creditA_s _ _))) $$ HR Hlev HO W0; iintro ⟨HO, W0⟩
  iapply (one_by_one₄ (step_wait m K 0 Function.injective_id c 3 (by decide) 15 (.inl (by decide)) (sem_ss 3 (by decide) _) (creditA_s _ _))) $$ HR Hlev HO W0; iintro ⟨HO, W0⟩
  iapply (one_by_one₄ (step_wait m K 0 Function.injective_id c 4 (by decide) 15 (.inl (by decide)) (sem_ss 4 (by decide) _) (creditA_s _ _))) $$ HR Hlev HO W0; iintro ⟨HO, W0⟩
  iapply (one_by_one₄ (step_wait m K 0 Function.injective_id c 5 (by decide) 15 (.inl (by decide)) (sem_ss 5 (by decide) _) (creditA_s _ _))) $$ HR Hlev HO W0; iintro ⟨HO, W0⟩
  simp only [Prog.bind_ret]
  rw [k0_part35_eq_skeleton]; unfold k0_part35_skel
  simp only [semSignalWord, semWaitWord, Prog.lift, Prog.bind_op, Prog.bind_ret, Prog.pure_eq_ret]
  iapply (one_by_one₄ (step_wait m K 0 Function.injective_id c 6 (by decide) 15 (.inl (by decide)) (sem_ss 6 (by decide) _) (creditA_s _ _))) $$ HR Hlev HO W0; iintro ⟨HO, W0⟩
  iapply (one_by_one₄ (step_wait m K 0 Function.injective_id c 7 (by decide) 15 (.inl (by decide)) (sem_ss 7 (by decide) _) (creditA_s _ _))) $$ HR Hlev HO W0; iintro ⟨HO, W0⟩
  iapply (one_by_one₄ (step_wait m K 0 Function.injective_id c 8 (by decide) 15 (.inl (by decide)) (sem_ss 8 (by decide) _) (creditA_s _ _))) $$ HR Hlev HO W0; iintro ⟨HO, W0⟩
  simp only [Prog.bind_ret]
  rw [k0_part36_eq_skeleton]; unfold k0_part36_skel
  simp only [semSignalWord, semWaitWord, Prog.lift, Prog.bind_op, Prog.bind_ret, Prog.pure_eq_ret]
  iapply (one_by_one₄ (step_wait m K 0 Function.injective_id c 9 (by decide) 15 (.inl (by decide)) (sem_ss 9 (by decide) _) (creditA_s _ _))) $$ HR Hlev HO W0; iintro ⟨HO, W0⟩
  iapply (one_by_one₄ (step_wait m K 0 Function.injective_id c 10 (by decide) 15 (.inl (by decide)) (sem_ss 10 (by decide) _) (creditA_s _ _))) $$ HR Hlev HO W0; iintro ⟨HO, W0⟩
  iapply (one_by_one₄ (step_wait m K 0 Function.injective_id c 11 (by decide) 15 (.inl (by decide)) (sem_ss 11 (by decide) _) (creditA_s _ _))) $$ HR Hlev HO W0; iintro ⟨HO, W0⟩
  iapply (one_by_one₄ (step_wait m K 0 Function.injective_id c 12 (by decide) 15 (.inl (by decide)) (sem_ss 12 (by decide) _) (creditA_s _ _))) $$ HR Hlev HO W0; iintro ⟨HO, W0⟩
  simp only [Prog.bind_ret]
  rw [k0_part37_eq_skeleton]; unfold k0_part37_skel
  simp only [semSignalWord, semWaitWord, Prog.lift, Prog.bind_op, Prog.bind_ret, Prog.pure_eq_ret]
  iapply (one_by_one₄ (step_wait m K 0 Function.injective_id c 13 (by decide) 15 (.inl (by decide)) (sem_ss 13 (by decide) _) (creditA_s _ _))) $$ HR Hlev HO W0; iintro ⟨HO, W0⟩
  iapply (one_by_one₄ (step_wait m K 0 Function.injective_id c 14 (by decide) 15 (.inl (by decide)) (sem_ss 14 (by decide) _) (creditA_s _ _))) $$ HR Hlev HO W0; iintro ⟨HO, W0⟩
  iapply (one_by_one₄ (step_wait m K 2 Function.injective_id c 0 (by decide) 15 (.inl (by decide)) (sem_rs 0 (by decide) _) (creditB_y _ _))) $$ HR Hlev HO W2; iintro ⟨HO, W2⟩
  iapply (one_by_one₄ (step_wait m K 2 Function.injective_id c 1 (by decide) 15 (.inl (by decide)) (sem_rs 1 (by decide) _) (creditB_y _ _))) $$ HR Hlev HO W2; iintro ⟨HO, W2⟩
  simp only [Prog.bind_ret]
  rw [k0_part38_eq_skeleton]; unfold k0_part38_skel
  simp only [semSignalWord, semWaitWord, Prog.lift, Prog.bind_op, Prog.bind_ret, Prog.pure_eq_ret]
  iapply (one_by_one₄ (step_wait m K 2 Function.injective_id c 2 (by decide) 15 (.inl (by decide)) (sem_rs 2 (by decide) _) (creditB_y _ _))) $$ HR Hlev HO W2; iintro ⟨HO, W2⟩
  iapply (one_by_one₄ (step_wait m K 2 Function.injective_id c 3 (by decide) 15 (.inl (by decide)) (sem_rs 3 (by decide) _) (creditB_y _ _))) $$ HR Hlev HO W2; iintro ⟨HO, W2⟩
  iapply (one_by_one₄ (step_wait m K 2 Function.injective_id c 4 (by decide) 15 (.inl (by decide)) (sem_rs 4 (by decide) _) (creditB_y _ _))) $$ HR Hlev HO W2; iintro ⟨HO, W2⟩
  iapply (one_by_one₄ (step_wait m K 2 Function.injective_id c 5 (by decide) 15 (.inl (by decide)) (sem_rs 5 (by decide) _) (creditB_y _ _))) $$ HR Hlev HO W2; iintro ⟨HO, W2⟩
  simp only [Prog.bind_ret]
  rw [k0_part39_eq_skeleton]; unfold k0_part39_skel
  simp only [semSignalWord, semWaitWord, Prog.lift, Prog.bind_op, Prog.bind_ret, Prog.pure_eq_ret]
  iapply (one_by_one₄ (step_wait m K 2 Function.injective_id c 6 (by decide) 15 (.inl (by decide)) (sem_rs 6 (by decide) _) (creditB_y _ _))) $$ HR Hlev HO W2; iintro ⟨HO, W2⟩
  iapply (one_by_one₄ (step_wait m K 2 Function.injective_id c 7 (by decide) 15 (.inl (by decide)) (sem_rs 7 (by decide) _) (creditB_y _ _))) $$ HR Hlev HO W2; iintro ⟨HO, W2⟩
  iapply (one_by_one₄ (step_wait m K 2 Function.injective_id c 8 (by decide) 15 (.inl (by decide)) (sem_rs 8 (by decide) _) (creditB_y _ _))) $$ HR Hlev HO W2; iintro ⟨HO, W2⟩
  simp only [Prog.bind_ret]
  rw [k0_part40_eq_skeleton]; unfold k0_part40_skel
  simp only [semSignalWord, semWaitWord, Prog.lift, Prog.bind_op, Prog.bind_ret, Prog.pure_eq_ret]
  iapply (one_by_one₄ (step_wait m K 2 Function.injective_id c 9 (by decide) 15 (.inl (by decide)) (sem_rs 9 (by decide) _) (creditB_y _ _))) $$ HR Hlev HO W2; iintro ⟨HO, W2⟩
  iapply (one_by_one₄ (step_wait m K 2 Function.injective_id c 10 (by decide) 15 (.inl (by decide)) (sem_rs 10 (by decide) _) (creditB_y _ _))) $$ HR Hlev HO W2; iintro ⟨HO, W2⟩
  iapply (one_by_one₄ (step_wait m K 2 Function.injective_id c 11 (by decide) 15 (.inl (by decide)) (sem_rs 11 (by decide) _) (creditB_y _ _))) $$ HR Hlev HO W2; iintro ⟨HO, W2⟩
  iapply (one_by_one₄ (step_wait m K 2 Function.injective_id c 12 (by decide) 15 (.inl (by decide)) (sem_rs 12 (by decide) _) (creditB_y _ _))) $$ HR Hlev HO W2; iintro ⟨HO, W2⟩
  simp only [Prog.bind_ret]
  iapply (one_by_one₄ (step_wait m K 2 Function.injective_id c 13 (by decide) 15 (.inl (by decide)) (sem_rs 13 (by decide) _) (creditB_y _ _))) $$ HR Hlev HO W2; iintro ⟨HO, W2⟩
  simp only [Prog.bind_ret]
  iapply (one_by_one₄ (step_wait m K 2 Function.injective_id c 14 (by decide) 15 (.inl (by decide)) (sem_rs 14 (by decide) _) (creditB_y _ _))) $$ HR Hlev HO W2; iintro ⟨HO, W2⟩

  rw [wp_ret]; imodintro
  iapply Hk
  ihave W0 := (Wt_done m 0 Function.injective_id (got_id 0 (by decide)) c) $$ W0
  icases W0 with ⟨Hz0, Hs⟩
  ihave W1 := (Wt_done m 1 Fin.rev_injective got_rev c) $$ W1
  icases W1 with ⟨Hz1, Hr⟩
  ihave W2 := (Wt_done m 2 Function.injective_id (got_id 2 (by decide)) c) $$ W2
  icases W2 with ⟨Hz2, Hy⟩
  ihave W3 := (Wt_done m 3 ordR_inj got_ordR c) $$ W3
  icases W3 with ⟨Hz3, Ht⟩
  isplitl [Hs Hr Hy Ht]
  · isplitl [Hs]; · iexists (SB m c); iapply (Entails.of_eq (buf_s m c _)); iexact Hs
    isplitl [Hr]; · iexists (RB m c); iapply (Entails.of_eq (buf_r m c _)); iexact Hr
    isplitl [Hy]; · iexists (YB m c); iapply (Entails.of_eq (buf_y m c _)); iexact Hy
    iexists (YR m c); iapply (Entails.of_eq (buf_t m c _)); iexact Ht
  isplitl [Hz0 Hz1 Hz2 Hz3 Hzb]
  · unfold zeros
    isplitl [Hz0 Hz1 Hz2 Hz3]
    · isplitl [Hz0]; · iexact Hz0
      isplitl [Hz1]; · iexact Hz1
      isplitl [Hz2] <;> iassumption
    iexact Hzb
  isplitl [HO]; · iexact HO
  isplitl [Hx]; · iexact Hx
  isplitl [Hi]; · iexact Hi
  isplitl [Hw] <;> iassumption

end Cert.MoE
-- ==== Proof.Run.lean ====
/-
# The launch

The sixteen devices launched together: who holds which of the protocol's tokens, what each owes at launch and the credit
that makes for the others, and the run of `@main` from any memory, whose final state has each device's output block at
`outAt`, its inputs unchanged and every semaphore at zero.
-/
module

public import proofs.«01_k».proof.Proof.Body
public import proofs.«01_k».proof.Proof.Gen.KernelIdeal.Points
public import Idealize.ShloMosaic.Lib.Pipeline.Launch
public import Idealize.ShloMosaic.Lib.Pipeline.CollectiveSegs
public import Idealize.ShloMosaic.Lib.Pipeline.Kit
public import Idealize.ShloMosaic.Lib.Tactic

@[expose] public section

noncomputable section

namespace Cert.MoE

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- What device `c` owes at launch. -/
def O₀ (c : Dev nD) : CellTallies nD τ sig Unit := owed c (up 0) (up 0) (up 0)

/-- What the body starts from beside the buffers. -/
def start (c : Dev nD) : sProp 𝕄 := iprop((∃ K, ghost m K c) ∗ creds c ∗ levAts L lv)

/-- What the pipeline is told of a device: the arrays at the launch, what the body leaves in each staging buffer, and what
    is held before and after it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m c
    | ⟨1, _⟩ => iv m c
    | ⟨2, _⟩ => wv m c
    | ⟨3, _⟩ => outAt m c
  Φ t := match t with
    | ⟨0, _⟩ => iprop(start m c ∗ bufs c)
    | ⟨_ + 1, _⟩ => iprop(bufs c ∗ zeros c)
  q _ := fullShare
  owed t := match t with
    | ⟨0, _⟩ => O₀ c
    | ⟨_ + 1, _⟩ => 0

/-- The transfer semaphores, in the launch's order. -/
abbrev osem : Fin 4 × Fin 15 → SemLoc sig := fun k => .dma (xsem k.1 k.2)

/-- They are semaphores of the kernel's own, apart from the pipeline's. -/
theorem ownSemFacts : Pipeline.OwnSemFacts cfg0.spec osem := by decide

/-- Every window holds its array whole. -/
theorem share_eq (c : Dev nD) (w : Fin cfg0.W) : (dats m ρ 0 c).share w = fullShare := by unfold Dat.share; split <;> rfl

/-- Over four things: one after the other. -/
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over a type and one more: that one and the others. -/
theorem bigSep_option {α : Type} [Fintype α] [DecidableEq α] (Φ : Option α → sProp 𝕄) :
    bigSep Finset.univ Φ = iprop(Φ none ∗ bigSep Finset.univ fun a => Φ (some a)) := by
  have h : (Finset.univ : Finset (Option α)) = insert none (Finset.univ.map Function.Embedding.some) := by
    ext x; rcases x with _ | x <;> simp
  rw [h, bigSep_insert (by simp), bigSep_map]; rfl

/-- Over a device's semaphores: the barrier's, then the four kinds of transfer. -/
theorem bigSep_cell (Φ : Cell → sProp 𝕄) :
    bigSep Finset.univ Φ = iprop(Φ none ∗ (bigSep Finset.univ fun i : Fin 15 => Φ (some (0, i))) ∗ (bigSep Finset.univ fun i : Fin 15 => Φ (some (1, i)))
      ∗ (bigSep Finset.univ fun i : Fin 15 => Φ (some (2, i))) ∗ bigSep Finset.univ fun i : Fin 15 => Φ (some (3, i))) := by
  rw [bigSep_option, bigSep_univ_prod, bigSep_fin4]

/-! ## The buffers of the launch -/

/-- All slots of the send buffer are the buffer; -/
theorem sP_univ (c : Dev nD) (f : BufA F) : (sP c Finset.univ f : sProp 𝕄) = (((c : Thread nD τ).loc cc0_scratch0) ↦{fullShare} f) := by
  unfold sP; rw [slab_univ]
/-- so of the receive buffer, -/
theorem rP_univ (c : Dev nD) (f : BufA F) : (rP c Finset.univ f : sProp 𝕄) = (((c : Thread nD τ).loc cc0_scratch1) ↦{fullShare} f) := by
  unfold rP; rw [slab_univ]
/-- of the result buffer -/
theorem yP_univ (c : Dev nD) (f : BufB F) : (yP c Finset.univ f : sProp 𝕄) = (((c : Thread nD τ).loc cc0_scratch2) ↦{fullShare} f) := by
  unfold yP; rw [slab_univ]
/-- and of the returned results. -/
theorem tP_univ (c : Dev nD) (f : BufB F) : (tP c Finset.univ f : sProp 𝕄) = (((c : Thread nD τ).loc cc0_scratch3) ↦{fullShare} f) := by
  unfold tP; rw [slab_univ]

/-- What the pipeline hands the body beside the staging buffers is the four exchange buffers. -/
theorem rest_eq (c : Dev nD) : (Pipeline.scopedRest cfg0.spec c : sProp 𝕄) = bufs (F := F) c := by
  refine (scopedRest0_eq c).trans ?_
  unfold bufs
  simp only [sP_univ, rP_univ, yP_univ, tP_univ]
  rfl

/-! ## The tokens -/

/-- All the protocol's semaphores of all devices. -/
def allCells : Finset (GSem nD τ sig) := Finset.univ.map ⟨kcell, kcell_inj⟩

/-- A device's duties as minted: on its barrier one for each other device, on each transfer semaphore one. -/
abbrev tokAt (x : Dev nD × (Option (Fin 4) × Fin 15)) : GSem nD τ sig × ℕ × Fin 15 := match x.2.1 with
  | none => (bc x.1, 0, x.2.2)
  | some a => (xc a x.2.2 x.1, 0, 0)
/-- No duty is minted twice. -/
theorem tokAt_inj : Function.Injective tokAt := by
  rintro ⟨c, a, i⟩ ⟨c', a', i'⟩ h
  rcases a with _ | a <;> rcases a' with _ | a'
  · have h1 := kcell_inj (congrArg Prod.fst h)
    have h2 : i = i' := congrArg (fun x => x.2.2) h
    cases h1; cases h2; rfl
  · have h1 := kcell_inj (congrArg Prod.fst h); cases h1
  · have h1 := kcell_inj (congrArg Prod.fst h); cases h1
  · have h1 := kcell_inj (congrArg Prod.fst h); cases h1; rfl
/-- All the duties. -/
def allToks : Finset (GSem nD τ sig × ℕ × Fin 15) := Finset.univ.map ⟨tokAt, tokAt_inj⟩

/-- What the launch starts with: the pipeline's resource and the rounds'. -/
def u₀ : UU :=
  (initOf (Pipeline.cells cfgs cellOf_inj) (Pipeline.launchToks cfgs cellOf_inj), initOf allCells allToks)

/-- The tokens of the duties on device `c`'s own semaphores; -/
def toks (c : Dev nD) : sProp 𝕄 :=
  iprop((bigSep Finset.univ fun i : Fin 15 => dutyTok ER (bc c) 0 i) ∗ TS 0 c ∗ TS 1 c ∗ TS 2 c ∗ TS 3 c)
/-- and of the duties it pays. -/
def payToks (c : Dev nD) : sProp 𝕄 := iprop(TB c ∗ (TS 0 c ∗ TR 1 c) ∗ TS 2 c ∗ TR 3 c)

/-- What of the rounds device `c` gets at the launch; -/
def G (c : Dev nD) : sProp 𝕄 :=
  iprop((bigSep Finset.univ fun k : Cell => roundState ER (rd m) (kcell (c, k)) 0)
    ∗ (bigSep Finset.univ fun k : Cell => iprop(atPos ER (kcell (c, k)) 0 ∅ 0 ∗ reached ER (kcell (c, k)) 0)) ∗ toks c)
/-- and what it has once the invariants are made. -/
def G' (c : Dev nD) : sProp 𝕄 := iprop(∃ K, ghost m K c)

/-- The launch's resource of the rounds is shared out among the devices. -/
theorem fund : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks TS; rw [bigSep_univ_prod, bigSep_option, bigSep_fin4]; rfl
  iintro HX
  imod (Rounds.fund ER (rd m) allCells allToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The one semaphore outside the kernel's own is the barrier's. -/
theorem unscopedSems0_eq (c : Dev nD) : (unscopedSems0 c : sProp 𝕄) = semVal (bc c) 0 := by
  unfold unscopedSems0; rw [bigSep_eq_bigSepL_of_eq [SemLoc.reg barS] (by decide) (by decide)]; rfl
/-- The kernel's own semaphores at zero, by kind. -/
theorem ownSems0_eq (c : Dev nD) : (Pipeline.ownSems0 (Ix := Unit) (Name := ℕ) (U := UU) (Lvl := ℕ) (Val := Elt F) (τ := τ) osem c : sProp 𝕄)
    = iprop(Zv 0 c ∗ Zv 1 c ∗ Zv 2 c ∗ Zv 3 c) := by
  unfold Pipeline.ownSems0 Zv; rw [bigSep_univ_prod, bigSep_fin4]

/-- Both together are the semaphores of the protocol at zero. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cell => semVal (kcell (c, k)) 0 : sProp 𝕄) := by
  rw [ownSems0_eq, unscopedSems0_eq, bigSep_cell]
  unfold Zv
  iintro ⟨H, HB⟩
  isplitl [HB]; · iexact HB
  iexact H

/-- From a device's semaphores at zero and its part of the rounds its invariants are made. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cell => semVal (kcell (c, k)) 0) ∗ bigSep Finset.univ fun k : Cell => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ### The tokens around the mesh -/

/-- From another device back: the mirrored number of steps; -/
theorem there_back (c : Dev nD) (i : Fin 15) : dv (dv c (i.val + 1)) (i.rev.val + 1) = c :=
  dv_back c (by rw [Fin.val_rev]; omega)
/-- and the other way round. -/
theorem back_there (c : Dev nD) (i : Fin 15) : dv (dv c (i.rev.val + 1)) (i.val + 1) = c :=
  dv_back c (by rw [Fin.val_rev]; omega)

/-- The `i`-th other device as seen from `c`, and which `c` is as seen from it; -/
def across : Dev nD × Fin 15 ≃ Dev nD × Fin 15 where
  toFun x := (dv x.1 (x.2.val + 1), x.2.rev)
  invFun x := (dv x.1 (x.2.val + 1), x.2.rev)
  left_inv x := Prod.ext (there_back x.1 x.2) (Fin.rev_rev x.2)
  right_inv x := Prod.ext (there_back x.1 x.2) (Fin.rev_rev x.2)
/-- the `i`-th step of every device at once. -/
def onward : Dev nD × Fin 15 ≃ Dev nD × Fin 15 where
  toFun x := (dv x.1 (x.2.val + 1), x.2)
  invFun x := (dv x.1 (x.2.rev.val + 1), x.2)
  left_inv x := Prod.ext (there_back x.1 x.2) rfl
  right_inv x := Prod.ext (back_there x.1 x.2) rfl

/-- Over all devices and steps at once, in any arrangement. -/
theorem all_moved (e : Dev nD × Fin 15 ≃ Dev nD × Fin 15) (Φ : Dev nD × Fin 15 → sProp 𝕄) :
    (bigSep Finset.univ fun c : Dev nD => bigSep Finset.univ fun i : Fin 15 => Φ (c, i))
      = bigSep Finset.univ fun c : Dev nD => bigSep Finset.univ fun i : Fin 15 => Φ (e (c, i)) := by
  rw [← bigSep_univ_prod, bigSep_univ_equiv e, bigSep_univ_prod]

/-- The barriers' duties, by who pays them; -/
theorem moved_bar : (bigSep Finset.univ fun c : Dev nD => bigSep Finset.univ fun i : Fin 15 => (dutyTok ER (bc c) 0 i : sProp 𝕄)) = bigSep Finset.univ fun c => TB c :=
  all_moved across fun x => (dutyTok ER (bc x.1) 0 x.2 : sProp 𝕄)
/-- the transfer semaphores' duties of a kind, by who pays them. -/
theorem moved (a : Fin 4) : (bigSep Finset.univ fun c : Dev nD => (TS a c : sProp 𝕄)) = bigSep Finset.univ fun c => TR a c :=
  all_moved onward fun x => (dutyTok ER (xc a x.2 x.1) 0 (0 : Fin 15) : sProp 𝕄)

/-- So every duty goes to the device that pays it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep', moved_bar, moved 1, moved 3]
  iintro ⟨H1, H2, H3, H4, H5⟩
  isplitl [H1]; · iexact H1
  isplitl [H2 H3]
  · isplitl [H2] <;> iassumption
  isplitl [H4] <;> iassumption

/-- What stays with device `c`. -/
def linear (c : Dev nD) : sProp 𝕄 := iprop((bigSep Finset.univ fun k : Cell => atPos ER (kcell (c, k)) 0 ∅ 0) ∗ payToks c)

/-- With the facts that all devices share, that is all the body needs of the rounds. -/
theorem ghost_intro (K : Dev nD × Cell → ℕ) (c : Dev nD) : iprop(records m K ∗ linear c) ⊢ G' m c := by
  unfold linear payToks G' ghost
  rw [bigSep_cell]
  iintro ⟨#HR, ⟨HaB, Ha⟩, Ht⟩
  iexists K
  isplitr; · iexact HR
  isplitl [HaB]; · iexact HaB
  isplitl [Ha]; · unfold At; iexact Ha
  iexact Ht

/-- Facts that stay may be used for each of a family. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants of all devices are known to each, the duties handed around. -/
theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Cell => iprop(∃ κ : ℕ, cellInv ER (rd m) κ (kcell ck))),
    bigSep_congr (s := Finset.univ) (fun (c : Dev nD) _ => bigSep_sep' Finset.univ (fun k : Cell => (atPos ER (kcell (c, k)) 0 ∅ 0 : sProp 𝕄)) (fun k => reached ER (kcell (c, k)) 0)),
    bigSep_sep', ← bigSep_univ_prod (fun ck : Dev nD × Cell => (reached ER (kcell ck) 0 : sProp 𝕄))]
  iintro ⟨HI, ⟨Hat, #HR⟩, Htok⟩
  ihave HK := (BI.bigSep_exists_pi Finset.univ (fun (ck : Dev nD × Cell) (κ : ℕ) => (cellInv ER (rd m) κ (kcell ck) : sProp 𝕄))) $$ HI
  icases HK with ⟨%K, #HI⟩
  ihave Htk := (toks_around (F := F)) $$ Htok
  iapply (with_known (R := records m K) fun c _ => ghost_intro m K c)
  isplitr
  · unfold records
    rw [bigSep_sep']
    isplitl; · iexact HI
    iexact HR
  · iapply (Entails.of_eq (bigSep_sep' Finset.univ (fun c : Dev nD => bigSep Finset.univ fun k : Cell => (atPos ER (kcell (c, k)) 0 ∅ 0 : sProp 𝕄)) payToks).symm)
    isplitl [Hat]; · iexact Hat
    iexact Htk

/-- The same from the semaphores at zero: the launch's set-up for all devices at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What one family of debts, all devices together, comes to on a semaphore. -/
theorem debt_sum (f : Fin 15 → Cell) (n : ℕ) (c : Dev nD) (k : Cell) :
    ∑ d : Dev nD, (∑ i : Fin 15, tallyAt (kcell (dv d (i.val + 1), f i)) () n : CellTallies nD τ sig Unit) (kcell (c, k)) ()
      = ∑ i : Fin 15, if k = f i then n else 0 := by
  have h1 : ∀ d : Dev nD, (∑ i : Fin 15, tallyAt (kcell (dv d (i.val + 1), f i)) () n : CellTallies nD τ sig Unit) (kcell (c, k)) ()
      = ∑ i : Fin 15, if d = dv c (i.rev.val + 1) then (if k = f i then n else 0) else 0 := by
    intro d
    rw [Finset.sum_apply, Finsupp.finset_sum_apply]
    refine Finset.sum_congr rfl fun i _ => ?_
    rw [tallyAt_apply]
    by_cases h : d = dv c (i.rev.val + 1)
    · subst h
      rw [back_there, if_pos rfl]
      by_cases hk : k = f i
      · subst hk; rw [if_pos ⟨rfl, rfl⟩, if_pos rfl]
      · rw [if_neg (fun h' => hk (congrArg Prod.snd (kcell_inj h'.1))), if_neg hk]
    · rw [if_neg (fun h' => h (by rw [show c = dv d (i.val + 1) from congrArg Prod.fst (kcell_inj h'.1), there_back])), if_neg h]
  rw [Finset.sum_congr rfl fun d _ => h1 d, Finset.sum_comm]
  refine Finset.sum_congr rfl fun i _ => ?_
  rw [Finset.sum_ite_eq' Finset.univ (dv c (i.rev.val + 1)) fun _ => if k = f i then n else 0, if_pos (Finset.mem_univ _)]

/-- What all devices together owe a semaphore. -/
def dueAt (k : Cell) : ℕ :=
  (∑ i : Fin 15, if k = some (3, i) then NX 3 else 0) + (∑ i : Fin 15, if k = some (1, i) then NX 1 else 0) + ∑ i : Fin 15, if k = none then 1 else 0

/-- The launch's credit on a semaphore is what all devices owe it: -/
theorem launch_due (c : Dev nD) (k : Cell) :
    tallyOn (kcell (c, k)) (launchCredit (Pipeline.owing O₀) 0 (kcell (c, k))) = (tallyAt (kcell (c, k)) () (dueAt k) : CellTallies nD τ sig Unit) := by
  unfold tallyAt; refine congrArg _ (Finsupp.ext fun u => ?_); cases u
  rw [Pipeline.launchCredit_owing, Finsupp.single_eq_same]
  unfold O₀ owed dueAt
  rw [up_zero]
  simp only [Pi.add_apply, Finsupp.add_apply]
  rw [Finset.sum_add_distrib, Finset.sum_add_distrib, debt_sum (fun i => some (3, i)), debt_sum (fun i => some (1, i)), debt_sum (fun _ => none)]

/-- fifteen units on a barrier, -/
theorem due_bar : dueAt none = 15 := by decide
/-- the credit of a token slot on the arrival of tokens, -/
theorem due_tok (i : Fin 15) : dueAt (some (1, i)) = NX 1 := by
  unfold dueAt
  rw [Finset.sum_eq_zero fun j _ => if_neg (fun h => by cases h), Finset.sum_eq_zero (f := fun _ : Fin 15 => if (some ((1 : Fin 4), i) : Cell) = none then 1 else 0) fun j _ => if_neg (fun h => by cases h),
    Finset.sum_congr rfl fun j _ => if_congr (show (some ((1 : Fin 4), i) : Cell) = some (1, j) ↔ j = i by simp [eq_comm]) rfl rfl,
    Finset.sum_ite_eq' Finset.univ i fun _ => NX 1, if_pos (Finset.mem_univ _), Nat.zero_add, Nat.add_zero]
/-- that of a result slot on the arrival of results. -/
theorem due_res (i : Fin 15) : dueAt (some (3, i)) = NX 3 := by
  unfold dueAt
  rw [Finset.sum_eq_zero (f := fun j : Fin 15 => if (some ((3 : Fin 4), i) : Cell) = some (1, j) then NX 1 else 0) fun j _ => if_neg (fun h => by cases h), Finset.sum_eq_zero (f := fun _ : Fin 15 => if (some ((3 : Fin 4), i) : Cell) = none then 1 else 0) fun j _ => if_neg (fun h => by cases h),
    Finset.sum_congr rfl fun j _ => if_congr (show (some ((3 : Fin 4), i) : Cell) = some (3, j) ↔ j = i by simp [eq_comm]) rfl rfl,
    Finset.sum_ite_eq' Finset.univ i fun _ => NX 3, if_pos (Finset.mem_univ _), Nat.add_zero, Nat.add_zero]

/-- Of all a device's semaphores, the protocol's. -/
theorem part_of (Φ : SemLoc sig → sProp 𝕄) :
    bigSep Finset.univ Φ ⊢ iprop(Φ (csem none) ∗ (bigSep Finset.univ fun i : Fin 15 => Φ (csem (some (0, i)))) ∗ (bigSep Finset.univ fun i : Fin 15 => Φ (csem (some (1, i))))
      ∗ (bigSep Finset.univ fun i : Fin 15 => Φ (csem (some (2, i)))) ∗ bigSep Finset.univ fun i : Fin 15 => Φ (csem (some (3, i)))) := by
  have h : bigSep Finset.univ Φ ⊢ bigSep (Finset.univ.map ⟨csem, csem_inj⟩) Φ := BI.bigSep_subset (Finset.subset_univ _)
  rw [bigSep_map] at h
  exact h.trans (Entails.of_eq (bigSep_cell fun k => Φ (csem k)))

/-- A semaphore's credit, as a number. -/
theorem cred_due (c : Dev nD) (k : Cell) {n : ℕ} (h : dueAt k = n) :
    (cred (tallyOn (kcell (c, k)) (launchCredit (Pipeline.owing O₀) 0 (kcell (c, k)))) : sProp 𝕄) = cred (tallyAt (kcell (c, k)) () n) := by
  subst h; rw [launch_due]

/-- The launch gives each device the credits its waits need. -/
theorem creds_intro (c : Dev nD) : (Pipeline.launchCred O₀ c : sProp 𝕄) ⊢ creds (F := F) c := by
  unfold Pipeline.launchCred creds Cr
  iintro H
  ihave H := (part_of (F := F) (fun sm : SemLoc sig => cred (tallyOn ((c : Thread nD τ), sm) (launchCredit (Pipeline.owing O₀) 0 ((c : Thread nD τ), sm))))) $$ H
  icases H with ⟨H, -, H1, -, H3⟩
  isplitl [H]; · iapply (Entails.of_eq (cred_due (F := F) c none due_bar)); iexact H
  isplitl [H1]
  · iapply (Entails.of_eq (bigSep_congr fun i _ => cred_due (F := F) c (some (1, i)) (due_tok i))); iexact H1
  · iapply (Entails.of_eq (bigSep_congr fun i _ => cred_due (F := F) c (some (3, i)) (due_res i))); iexact H3

/-! ## The body's obligation -/

/-- Over the four windows: one after the other. -/
theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

/-- To own a buffer whole is to hold all its elements. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer as the pipeline holds it. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The grid has one point. -/
theorem fin_N (t : Fin cfg0.N) : t = t0_0 := by
  exact fin_N0 t

/-- What the pipeline holds when it calls the body; -/
def bodyPre (c : Dev nD) : sProp 𝕄 :=
  iprop((start m c ∗ bufs c) ∗ (dats m ρ 0 c).owesAt () t0_0.castSucc
    ∗ (∃ d, held c cc0_stg0_0 ((dats m ρ 0 c).before (0 : Fin 4) t0_0 d)) ∗ (∃ d, held c cc0_stg1_0 ((dats m ρ 0 c).before (1 : Fin 4) t0_0 d))
    ∗ (∃ d, held c cc0_stg2_0 ((dats m ρ 0 c).before (2 : Fin 4) t0_0 d)) ∗ (∃ d, held c cc0_stg3_0 ((dats m ρ 0 c).before (3 : Fin 4) t0_0 d)))

/-- and what it wants back. -/
def bodyPost (c : Dev nD) : sProp 𝕄 :=
  iprop((bufs c ∗ zeros c) ∗ (dats m ρ 0 c).owesAt () t0_0.succ
    ∗ held c cc0_stg0_0 (xv m c) ∗ held c cc0_stg1_0 (iv m c) ∗ held c cc0_stg2_0 (wv m c) ∗ held c cc0_stg3_0 (outAt m c))

/-- A staging buffer is held as the pipeline holds it. -/
theorem held_intro (c : Dev nD) (b : Ref sig .tc) (X : b.ty.Contents (Elt F)) : stg c b X ⊢ held c b X := by
  iintro H; iexists X; isplitr; · (ipureintro; rfl)
  iexact H

/-- The body finds the device's tokens staged, -/
theorem before_0 (c : Dev nD) (d) : (dats m ρ 0 c).before (0 : Fin 4) t0_0 d = xv m c := by
  unfold Dat.before; rw [if_pos (fetch0_0 t0_0)]; rfl
/-- its routing indices -/
theorem before_1 (c : Dev nD) (d) : (dats m ρ 0 c).before (1 : Fin 4) t0_0 d = iv m c := by
  unfold Dat.before; rw [if_pos (fetch0_1 t0_0)]; rfl
/-- and its experts' weights. -/
theorem before_2 (c : Dev nD) (d) : (dats m ρ 0 c).before (2 : Fin 4) t0_0 d = wv m c := by
  unfold Dat.before; rw [if_pos (fetch0_2 t0_0)]; rfl

/-- The body's run, from what the pipeline holds to what it wants back; -/
theorem body_run (c : Dev nD) :
    bodyPre m ρ c ⊢ wp frame (wpE (defs₀ (F := F)) 𝒱₀ (c : Thread nD τ) none) Set.univ
      (cc0_body xM (Memref.isWhole_whole _) iM (Memref.isWhole_whole _) wM (Memref.isWhole_whole _) oM (Memref.isWhole_whole _)
        sM (Memref.isWhole_whole _) rM (Memref.isWhole_whole _) yM (Memref.isWhole_whole _) tM (Memref.isWhole_whole _)
        cc0_scratch4 cc0_scratch5 cc0_scratch6 cc0_scratch7) fun _ => bodyPost m ρ c := by
  unfold bodyPre start
  iintro ⟨⟨⟨⟨%K, Hg⟩, Hc, Hl⟩, Hb⟩, Ho, ⟨%d0, %g0, %hg0, Hx⟩, ⟨%d1, %g1, %hg1, Hi⟩, ⟨%d2, %g2, %hg2, Hw⟩, ⟨%d3, %g3, %hg3, Hout⟩⟩
  rw [before_0] at hg0; rw [before_1] at hg1; rw [before_2] at hg2
  subst hg0; subst hg1; subst hg2
  unfold Dat.owesAt Pipeline.owesWithin
  icases Ho with ⟨%W, %hW, HO⟩
  rw [show (dats m ρ 0 c).owed t0_0.castSucc = O₀ c from rfl]
  iapply (sound_body m K c g3 fun _ => bodyPost m ρ c)
  isplitl
  · isplitl [Hg]; · iexact Hg
    isplitl [Hc]; · iexact Hc
    isplitl [Hl]; · iexact Hl
    isplitl [Hb]; · iexact Hb
    isplitl [HO]; · unfold Owe; iexists W; iexact HO
    isplitl [Hx]; · iexact Hx
    isplitl [Hi]; · iexact Hi
    isplitl [Hw] <;> iassumption
  iintro ⟨Hb, Hz, HO, Hx, Hi, Hw, Ho⟩
  unfold bodyPost Dat.owesAt Pipeline.owesWithin Owe
  icases HO with ⟨%W', HO⟩
  rw [show (dats m ρ 0 c).owed t0_0.succ = 0 from rfl, up_all, owed_none]
  isplitl [Hb Hz]
  · isplitl [Hb] <;> iassumption
  isplitl [HO]
  · iexists W'
    isplitr; · ipureintro; exact fun _ _ => Or.inl trivial
    iexact HO
  isplitl [Hx]; · iapply (held_intro c cc0_stg0_0 (xv m c)); iexact Hx
  isplitl [Hi]; · iapply (held_intro c cc0_stg1_0 (iv m c)); iexact Hi
  isplitl [Hw]; · iapply (held_intro c cc0_stg2_0 (wv m c)); iexact Hw
  iapply (held_intro c cc0_stg3_0 (outAt m c)); iexact Ho

set_option maxRecDepth 30000 in
/-- in the form in which the pipeline asks for it. -/
theorem body_obligation (c : Dev nD) : BodyObligation (dats (F := F) m ρ 0 c) (defs₀ (F := F)) 𝒱₀ () Set.univ := fun t => by
  rw [fin_N t, bigSep_W, bigSep_W]
  simp only [owns_whole_eq]
  exact body_run m ρ c

/-! ## The run -/

/-- The routing weights, which the kernel never looks at. -/
abbrev routerAt (c : Dev nD) : sProp 𝕄 := ((c : Thread nD τ).loc main_arg1) ↦{fullShare} m ((c : Thread nD τ).loc main_arg1)

/-- The launch gives what the body starts from, and the routing weights to keep. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ routerAt m c) := by
  rw [Pipeline.unscopedRestP_none, show (Pipeline.unscopedRest cfg0.spec c (fun b => m ((c : Thread nD τ).loc b)) : sProp 𝕄) = routerAt m c from unscopedRest0_eq c _]
  iintro ⟨Hr, Hlev, Hcr, -, HG⟩
  ihave Hc := (creds_intro (F := F) c) $$ Hcr
  imodintro
  unfold start G'
  isplitr [Hr]
  · isplitl [HG]; · iexact HG
    isplitl [Hc] <;> iassumption
  · iexact Hr

/-- With the exchange buffers that is what is held before the first point. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ bufs c) from rfl, rest_eq]
  iintro ⟨Hs, -, Hr⟩
  isplitl [Hs] <;> iassumption

/-- What is held after the last point gives the semaphores at zero and the buffers back. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(bufs c ∗ zeros c) from rfl, rest_eq, ownSems0_eq, unscopedSems0_eq]
  unfold zeros
  iintro ⟨Hr, Hz, HzB⟩
  isplitl [HzB]; · iexact HzB
  isplitl [Hz] <;> iassumption

/-- The pipeline's own waits are allowed while the device owes. -/
theorem mayWait_stage (c : Dev nD) (q : DmaSem sig) (hq : who (.dma q) = none) (O : CellTallies nD τ sig Unit) (hO : O = O₀ c ∨ O = 0) :
    (levAts L lv : sProp 𝕄) ⊢ MayWait (c : Thread nD τ) (.dma q) () O := by
  rcases hO with rfl | rfl
  · exact mayWait_below c (.dma q) 0 (by rw [hq]; exact Nat.le_refl 0) _ _ _ (fun _ => by decide) (fun _ => by decide) (by decide)
  · rw [MayWait_zero]; iintro -; iempintro

/-- So all its waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> rfl) _ (by
      rcases t with ⟨_ | _, ht⟩
      · exact Or.inl rfl
      · exact Or.inr rfl)

/-- The final state: the windows' arrays as the pipeline leaves them, the routing weights as they were. -/
def Final (r : PUnit × MemSt nD τ sig (Elt F)) : Prop :=
  ∀ c : Dev nD, (∀ w : Fin cfg0.W, r.2.mem ((cfg0.win w).arr.view.loc (c : Thread nD τ)) = (dats m ρ 0 c).arrAt w cfg0.N)
    ∧ r.2.mem ((c : Thread nD τ).loc main_arg1) = m ((c : Thread nD τ).loc main_arg1)

set_option maxRecDepth 8000 in
/-- From any memory with zero counters, every weakly fair execution of `@main` on the sixteen devices terminates, and every
    final state is as `Final` says, every semaphore counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ _ => rfl) (hpf := fun _ k => k.elim0)
    (X := start m) (Y := fun c => unscopedSems0 c) (Z := routerAt m)
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hr, HSI⟩
      imod (Pipeline.unscopedSems0_read (X := unscopedSems0 c) (c := c) fupd_intro s') $$ [Hu HSI] with ⟨%h1, HSI⟩
      · isplitl [Hu] <;> iassumption
      ihave %h2 := (show iprop(SI s' ∗ routerAt m c) ⊢ (<pers> ⌜s'.mem.mem ((c : Thread nD τ).loc main_arg1) = m ((c : Thread nD τ).loc main_arg1)⌝ : sProp 𝕄) from
        (SI_pointsTo_agree.trans (BI.pure_mono fun h => funext fun i => h i (Finset.mem_univ i))).trans Laws.persistently_pure.2) $$ [HSI Hr]
      · isplitl [HSI] <;> iassumption
      imodintro
      isplitr; · ipureintro; exact ⟨h1, h2⟩
      iexact HSI)
    (hQ := fun _ h hs => ⟨fun c => ⟨(h c).1, (h c).2.2.2⟩, sem_eq_zero hs fun c => (h c).2.2.1⟩)

end Cert.MoE
-- ==== Proof.Frames.lean ====
/-
# The frames

Each program runs from any memory, ends with its arguments unchanged and with every semaphore counter at zero.  The
kernel's frames are its run with the values dropped; the reference's is the run of its host operations.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Run

@[expose] public section

noncomputable section

namespace Cert.MoE

open Cert.KernelIdeal Cert.KernelIdeal.Gen
open Idealize.ShloMosaic Idealize.ShloMosaic.TcCoe Idealize.SL.Sem

section
variable {F : FTy → Type} [FloatOps F]
variable (m : (ℓ : Loc nD τ sig) → Buf (Elt F) ℓ) (ρ : Dev nD → PrngReg)

/-- Device `c`'s four argument arrays hold in memory `s` what they hold in memory `m`. -/
def ArgsKept (s : (ℓ : Loc nD τ sig) → Buf (Elt F) ℓ) (c : Dev nD) : Prop :=
  s ((c.tc : Thread nD τ).loc main_arg0) = m ((c.tc : Thread nD τ).loc main_arg0)
  ∧ s ((c.tc : Thread nD τ).loc main_arg1) = m ((c.tc : Thread nD τ).loc main_arg1)
  ∧ s ((c.tc : Thread nD τ).loc main_arg2) = m ((c.tc : Thread nD τ).loc main_arg2)
  ∧ s ((c.tc : Thread nD τ).loc main_arg3) = m ((c.tc : Thread nD τ).loc main_arg3)

/-- A final state of the run has every device's arguments as they were at the launch. -/
theorem final_args (r : PUnit × MemSt nD τ sig (Elt F)) (h : Final m ρ r) (c : Dev nD) : ArgsKept m r.2.mem c :=
  ⟨((h c).1 (0 : Fin 4)).trans ((dats (F := F) m ρ 0 c).arrAt_in (0 : Fin 4) rfl _), (h c).2,
    ((h c).1 (1 : Fin 4)).trans ((dats (F := F) m ρ 0 c).arrAt_in (1 : Fin 4) rfl _),
    ((h c).1 (2 : Fin 4)).trans ((dats (F := F) m ρ 0 c).arrAt_in (2 : Fin 4) rfl _)⟩

/-- The sixteen devices' run with the values dropped: it terminates, each device's arguments end unchanged and every
    semaphore counter ends at zero. -/
theorem run_frame : θ_run defs (onTc (τ := τ) (main (F := F))) ⟨m, fun _ => 0, ρ⟩
    (fun r => (∀ c, ArgsKept m r.2.mem c) ∧ r.2.sem = fun _ => 0) :=
  (θ_run defs _ _).mono (fun r h => ⟨final_args m ρ r h.1, h.2⟩) (run_main m ρ)

end

/-- The kernel's bodies are the same functions in both programs. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, (t, s) => rfl
  | ⟨_ + 1, h⟩, _ => exact absurd h (Nat.not_lt.2 (Nat.le_add_left _ _))

/-- So are the bodies with their pipelines. -/
theorem defs_eq : Cert.Kernel.defs (F := Bits) = Cert.KernelIdeal.defs (F := Bits) := by
  unfold Cert.Kernel.defs Cert.KernelIdeal.defs
  rw [defs₀_eq]; rfl

/-- The kernel at the machine's own words: its frame. -/
theorem frame_kernel : Cert.quiescent_Kernel := fun m ρ _ => by
  rw [defs_eq]
  exact (θ_run Cert.KernelIdeal.defs _ _).mono (fun _ h => h) (run_frame (F := Bits) m ρ)

/-- The kernel over the extended reals: its frame. -/
theorem frame_kernelIdeal : Cert.quiescent_KernelIdeal := fun m ρ _ =>
  (θ_run Cert.KernelIdeal.defs _ _).mono (fun _ h => h) (run_frame (F := Ideal) m ρ)

/-- The reference over the extended reals: its frame.  It has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.MoE
-- ==== Proof.Count.lean ====
/-
# Counting tokens

The arithmetic of the layer on natural numbers: how many of a device's 512 tokens name an expert, how many do before a given
token, and the row of the send buffer that a token is put on, when no more than 64 of the tokens go to one device.
-/
module

public import Mathlib.Data.Fintype.Card
public import Mathlib.Data.Fintype.BigOperators
public import Mathlib.Algebra.BigOperators.Fin

@[expose] public section

namespace Cert.MoE

variable (f : Fin 512 → Fin 32)

/-- How many of the tokens name expert `k`. -/
def cnt (k : Fin 32) : ℕ := (Finset.univ.filter fun t => f t = k).card

/-- How many of the tokens before `t` name expert `k`. -/
def bef (t : Fin 512) (k : Fin 32) : ℕ := (Finset.univ.filter fun u => u < t ∧ f u = k).card

/-- The expert before `k` (of the first one, itself). -/
def pre (k : Fin 32) : Fin 32 := ⟨k.val - 1, by omega⟩

/-- The tokens of a device's odd expert come after those of its even one. -/
def off (t : Fin 512) : ℕ := if (f t).val % 2 = 1 then cnt f (pre (f t)) else 0

/-- Where token `t` stands among the tokens that go to the same device. -/
def pos (t : Fin 512) : ℕ := off f t + bef f t (f t)

/-- At most 64 of the tokens go to any one device. -/
def Few : Prop := ∀ d : Fin 16, (Finset.univ.filter fun t => (f t).val / 2 = d.val).card ≤ 64

/-- How many devices further on than `c` the tokens of expert `k` go. -/
def rel (c : Fin 16) (k : Fin 32) : Fin 16 := ⟨(k.val / 2 + 16 - c.val) % 16, Nat.mod_lt _ (by decide)⟩

/-- The row, of the sixteen times 64, that device `c` puts token `t` on. -/
def row (c : Fin 16) (t : Fin 512) : ℕ := (rel c (f t)).val * 64 + pos f t

/-- A token is one of those that name its expert, after those before it. -/
theorem bef_lt (t : Fin 512) : bef f t (f t) < cnt f (f t) :=
  Finset.card_lt_card (Finset.ssubset_iff_of_subset (fun u hu => by
    simp only [Finset.mem_filter, Finset.mem_univ, true_and] at hu ⊢; exact hu.2) |>.mpr
    ⟨t, by simp, by simp⟩)

/-- A device's two experts have no more tokens than the device. -/
theorem cnt_pair (k k' : Fin 32) (d : ℕ) (hk : k.val / 2 = d) (hk' : k'.val / 2 = d) (hne : k ≠ k') :
    cnt f k + cnt f k' ≤ (Finset.univ.filter fun t => (f t).val / 2 = d).card := by
  unfold cnt
  rw [← Finset.card_union_of_disjoint]
  · refine Finset.card_le_card fun u hu => ?_
    simp only [Finset.mem_union, Finset.mem_filter, Finset.mem_univ, true_and] at hu ⊢
    rcases hu with h | h <;> rw [h] <;> assumption
  · rw [Finset.disjoint_filter]; intro u _ h h'; exact hne (h.symm.trans h')

/-- An expert has at most all the tokens. -/
theorem cnt_le (k : Fin 32) : cnt f k ≤ 512 := (Finset.card_le_univ _).trans (by simp)

/-- The expert before an odd one is on the same device, -/
theorem pre_div (k : Fin 32) (h : k.val % 2 = 1) : (pre k).val / 2 = k.val / 2 := by unfold pre; show (k.val - 1) / 2 = _; omega
/-- and is another one. -/
theorem pre_ne (k : Fin 32) (h : k.val % 2 = 1) : pre k ≠ k := fun e => by
  have := congrArg Fin.val e; unfold pre at this; simp only at this; omega

/-- Under `Few` every token has a row among its device's 64. -/
theorem pos_lt (h : Few f) (t : Fin 512) : pos f t < 64 := by
  have hb := bef_lt f t
  have hd := h ⟨(f t).val / 2, by omega⟩
  unfold pos off
  by_cases ho : (f t).val % 2 = 1
  · rw [if_pos ho]
    have := cnt_pair f (pre (f t)) (f t) _ (pre_div _ ho) rfl (pre_ne _ ho)
    simp only at hd; omega
  · rw [if_neg ho]
    have : cnt f (f t) ≤ (Finset.univ.filter fun u => (f u).val / 2 = (f t).val / 2).card :=
      Finset.card_le_card fun u hu => by
        simp only [Finset.mem_filter, Finset.mem_univ, true_and] at hu ⊢; rw [hu]
    simp only at hd; omega

/-- Of two tokens of one expert the later has more before it. -/
theorem bef_mono (t u : Fin 512) (h : t < u) (e : f t = f u) : bef f t (f t) < bef f u (f u) :=
  Finset.card_lt_card (Finset.ssubset_iff_of_subset (fun v hv => by
    simp only [Finset.mem_filter, Finset.mem_univ, true_and] at hv ⊢
    exact ⟨hv.1.trans h, hv.2.trans e⟩) |>.mpr ⟨t, by simp [h, e], by simp⟩)

/-- Two tokens that go to the same device have different places there. -/
theorem pos_inj (t u : Fin 512) (hd : (f t).val / 2 = (f u).val / 2) (hp : pos f t = pos f u) : t = u := by
  have same : ∀ e : f t = f u, t = u := fun e => by
    have ho : off f t = off f u := by unfold off; rw [e]
    have hb : bef f t (f t) = bef f u (f u) := by unfold pos at hp; omega
    rcases lt_trichotomy t u with h | h | h
    · exact absurd hb (Nat.ne_of_lt (bef_mono f t u h e))
    · exact h
    · exact absurd hb.symm (Nat.ne_of_lt (bef_mono f u t h e.symm))
  have ht := bef_lt f t; have hu := bef_lt f u
  unfold pos off at hp
  by_cases h1 : (f t).val % 2 = 1 <;> by_cases h2 : (f u).val % 2 = 1
  · exact same (Fin.ext (by omega))
  · have e : pre (f t) = f u := Fin.ext (by unfold pre; simp only; omega)
    rw [if_pos h1, if_neg h2, e] at hp; omega
  · have e : pre (f u) = f t := Fin.ext (by unfold pre; simp only; omega)
    rw [if_neg h1, if_pos h2, e] at hp; omega
  · exact same (Fin.ext (by omega))

/-- The tokens of a device's even expert are the first. -/
theorem pos_even (t : Fin 512) (k : Fin 32) (hk : k.val = 2 * ((f t).val / 2)) : pos f t < cnt f k ↔ (f t).val % 2 = 0 := by
  have ht := bef_lt f t
  unfold pos off
  by_cases h : (f t).val % 2 = 1
  · have e : pre (f t) = k := Fin.ext (by unfold pre; simp only; omega)
    rw [if_pos h, e]; omega
  · have e : f t = k := Fin.ext (by omega)
    rw [if_neg h]; rw [e] at ht; rw [e]; omega

/-- Two tokens have different rows. -/
theorem row_inj (h : Few f) (c : Fin 16) (t u : Fin 512) (e : row f c t = row f c u) : t = u := by
  have h1 := pos_lt f h t; have h2 := pos_lt f h u
  have hr : (rel c (f t)).val = (rel c (f u)).val := by unfold row at e; omega
  refine pos_inj f t u ?_ (by unfold row at e; omega)
  unfold rel at hr; simp only at hr; omega

/-- Under `Few` every row is one of the 1024. -/
theorem row_lt (h : Few f) (c : Fin 16) (t : Fin 512) : row f c t < 1024 := by
  have h1 := pos_lt f h t; have h2 := (rel c (f t)).isLt; unfold row; omega

/-- The device the tokens go to, reached from `c`. -/
theorem rel_to (c : Fin 16) (k : Fin 32) : (c.val + (rel c k).val) % 16 = k.val / 2 := by
  unfold rel; simp only; omega

end Cert.MoE
-- ==== Proof.Words.lean ====
/-
# Small numbers as words and as extended reals

The kernel carries counts as floats and row numbers as 32-bit words; at the extended reals a count is itself.
-/
module

public import proofs.«01_k».proof.Proof.Cont
public import Idealize.ShloMosaic.Lib.Pointwise
public import Idealize.ShloMosaic.Lib.IdealHost

@[expose] public section

noncomputable section

namespace Cert.MoE

open Cert.KernelIdeal Cert.KernelIdeal.Gen
open Idealize.ShloMosaic

/-- A natural number as an extended real. -/
def nE (n : ℕ) : EReal := ((n : ℝ) : EReal)

/-- It takes zero to zero, -/
theorem nE_zero : nE 0 = 0 := by simp [nE]
/-- one to one, -/
theorem nE_one : nE 1 = 1 := by simp [nE]
/-- sums to sums -/
theorem nE_add (a b : ℕ) : nE (a + b) = nE a + nE b := by simp [nE]
/-- and products to products. -/
theorem nE_mul (a b : ℕ) : nE (a * b) = nE a * nE b := by simp [nE]
/-- It keeps the order. -/
theorem nE_lt (a b : ℕ) : nE a < nE b ↔ a < b := by simp [nE]
/-- It takes a difference to the difference. -/
theorem nE_sub (a b : ℕ) (h : b ≤ a) : nE a - nE b = nE (a - b) := by
  unfold nE; rw [← EReal.coe_sub, Nat.cast_sub h]

/-- A sum of natural numbers. -/
theorem nE_sum {ι : Type} (s : Finset ι) (g : ι → ℕ) : ∑ x ∈ s, nE (g x) = nE (∑ x ∈ s, g x) := by
  classical
  induction s using Finset.induction_on with
  | empty => simp [nE_zero]
  | insert a s h ih => rw [Finset.sum_insert h, Finset.sum_insert h, nE_add, ih]

/-- A case of one or zero, as a number. -/
theorem nE_ite (p : Prop) [Decidable p] : (if p then (1 : EReal) else 0) = nE (if p then 1 else 0) := by
  split <;> simp [nE_zero, nE_one]

/-- A count, as a sum of zeros and ones. -/
theorem sum_ind {ι : Type} [Fintype ι] (p : ι → Prop) [DecidablePred p] :
    ∑ x, (if p x then (1 : EReal) else 0) = nE (Finset.univ.filter p).card := by
  simp only [nE_ite]; rw [nE_sum, Finset.card_filter]

/-- A truth value as a number. -/
theorem sitofp_bool (φ : FTy) (b : Bool) :
    FloatOps.sitofp (F := Ideal) φ (BitVec.setWidth 32 (BitVec.ofBool b)) = if b then 1 else 0 := by
  cases b
  · show (((BitVec.setWidth 32 (BitVec.ofBool false)).toInt : ℝ) : EReal) = 0
    norm_num
  · show (((BitVec.setWidth 32 (BitVec.ofBool true)).toInt : ℝ) : EReal) = 1
    have : (BitVec.setWidth 32 (BitVec.ofBool true)).toInt = 1 := by decide
    rw [this]; norm_num

/-- A small number's word, read as signed, is the number. -/
theorem toInt_small (n : ℕ) (h : n < 2 ^ 31) : (BitVec.ofNat 32 n).toInt = n := by
  rw [BitVec.toInt_eq_toNat_of_lt]
  · rw [BitVec.toNat_ofNat, Nat.mod_eq_of_lt (by omega)]
  · rw [BitVec.toNat_ofNat, Nat.mod_eq_of_lt (by omega)]; omega

/-- A small word as a number; -/
theorem sitofp_nat (φ : FTy) (n : ℕ) (h : n < 2 ^ 31) : FloatOps.sitofp (F := Ideal) φ (BitVec.ofNat 32 n) = nE n := by
  show (((BitVec.ofNat 32 n).toInt : ℝ) : EReal) = nE n
  rw [toInt_small n h]; unfold nE; norm_num

/-- and a small number as a word. -/
theorem fptosi_nat (φ : FTy) (n : ℕ) (h : n < 2 ^ 31) : FloatOps.fptosi (F := Ideal) (φ := φ) 32 (nE n) = BitVec.ofNat 32 n := by
  show Ideal.fptosi 32 (((n : ℝ)) : EReal) = _
  unfold Ideal.fptosi
  rw [Ideal.toIntClamped_coe, if_pos (by positivity)]
  have e : ⌊(n : ℝ)⌋ = (n : ℤ) := Int.floor_natCast n
  rw [e, min_eq_right (by norm_num at h ⊢; omega), max_eq_right (by norm_num at h ⊢)]
  exact BitVec.ofInt_natCast 32 n

/-- Words of numbers are compared for equality as the numbers are; -/
theorem cmpi_eq_nat (a b : ℕ) (ha : a < 2 ^ 32) (hb : b < 2 ^ 32) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff, beq_iff_eq, decide_eq_true_iff]
  constructor
  · intro h
    have := congrArg BitVec.toNat h
    rwa [BitVec.toNat_ofNat, BitVec.toNat_ofNat, Nat.mod_eq_of_lt ha, Nat.mod_eq_of_lt hb] at this
  · rintro rfl; rfl

/-- words of small numbers are ordered as the numbers are. -/
theorem cmpi_slt_nat (a b : ℕ) (ha : a < 2 ^ 31) (hb : b < 2 ^ 31) :
    IntOp.cmpi .slt (BitVec.ofNat 32 a) (BitVec.ofNat 32 b) = BitVec.ofBool (decide (a < b)) := by
  show BitVec.ofBool ((BitVec.ofNat 32 a).slt (BitVec.ofNat 32 b)) = _
  congr 1
  rw [Bool.eq_iff_iff, BitVec.slt_iff_toInt_lt, decide_eq_true_iff, toInt_small a ha, toInt_small b hb]
  omega

/-- A selection by a truth value is a case distinction. -/
theorem select_bool {α : Type} (b : Bool) (x y : α) : Scalar.select (BitVec.ofBool b) x y = if b then x else y := by
  cases b <;> rfl

/-- The kernel's device number. -/
theorem wd_eq (c : Dev nD) : wd c = BitVec.ofNat 32 c.val := by
  revert c; decide

end Cert.MoE
-- ==== Proof.Sends.lean ====
/-
# What a device sends

The kernel's counts, its assignment of tokens to rows and its send buffer, read at an index over the extended reals, for a
device whose tokens' experts are given by `f`.
-/
module

public import proofs.«01_k».proof.Proof.Count
public import proofs.«01_k».proof.Proof.Words

@[expose] public section

set_option maxRecDepth 16384

noncomputable section

namespace Cert.MoE

open Cert.KernelIdeal Cert.KernelIdeal.Gen
open Idealize.ShloMosaic

/-- The words `v` are the experts `f`. -/
def Names (v : Vec Ideal S512x1 .i32) (f : Fin 512 → Fin 32) : Prop := ∀ t : Fin 512, v (ix2 t 0) = BitVec.ofNat 32 (f t).val

variable {v : Vec Ideal S512x1 .i32} {f : Fin 512 → Fin 32} (hv : Names v f)
include hv

/-- Which expert a token names, as zeros and a one; -/
theorem onehot_at (t : Fin 512) (k : Fin 32) : k0_pay2 (F := Ideal) v (ix2 t k) = if f t = k then 1 else 0 := by
  pointwise [k0_pay2, k0_pay1]
  rw [hv t, cmpi_eq_nat _ _ (by omega) (by omega), sitofp_bool]
  simp only [decide_eq_true_eq, Fin.ext_iff]

/-- how many name an expert; -/
theorem total_at (k : Fin 32) : k0_pay3 (F := Ideal) v (ix2 0 k) = nE (cnt f k) := by
  pointwise [k0_pay3]
  simp only [onehot_at hv]
  exact sum_ind _

/-- how many do before a token; -/
theorem before_at (t : Fin 512) (k : Fin 32) : k0_pay4 (F := Ideal) v (ix2 t k) = nE (bef f t k) := by
  pointwise [k0_pay4]
  unfold bef
  rw [← sum_ind]
  refine Finset.sum_congr rfl fun u _ => ?_
  rw [onehot_at hv, cmpi_slt_nat _ _ (by omega) (by omega), sitofp_bool]
  by_cases h1 : u.val < t.val <;> by_cases h2 : f u = k <;> simp [h1, h2, Fin.lt_def]

/-- and how many before it name the token's own. -/
theorem rank_at (t : Fin 512) : k0_pay5 (F := Ideal) v (ix2 t 0) = nE (bef f t (f t)) := by
  pointwise [k0_pay5]
  simp only [onehot_at hv, before_at hv, ite_mul, one_mul, zero_mul]
  rw [Finset.sum_ite_eq]; simp

/-- The total of the expert before a token's own, as the kernel sums it. -/
theorem shifted_at (t : Fin 512) (ho : (f t).val % 2 = 1) :
    (∑ _x : Fin 1, k0_pay2 (F := Ideal) v (ix2 t 0) * 0 + ∑ x : Fin 31, k0_pay2 (F := Ideal) v (ix2 t ⟨1 + x.val, by omega⟩) * k0_pay3 (F := Ideal) v (ix2 0 ⟨x.val, by omega⟩))
      = nE (cnt f (pre (f t))) := by
  simp only [onehot_at hv, total_at hv, mul_zero, Finset.sum_const_zero, zero_add, ite_mul, one_mul, zero_mul]
  rw [Finset.sum_eq_single ⟨(f t).val - 1, by omega⟩]
  · rw [if_pos (Fin.ext (by simp only; omega))]; rfl
  · intro x _ hx
    exact if_neg fun e => hx (Fin.ext (by have := congrArg Fin.val e; simp only at this ⊢; omega))
  · intro h; exact absurd (Finset.mem_univ _) h

omit hv in
/-- The kernel's remainder by two of an expert's word. -/
theorem rem2 (a : Fin 32) : IntOp.remsi .vector (BitVec.ofNat 32 a.val) 2#32 = BitVec.ofNat 32 (a.val % 2) := by
  revert a; decide

omit hv in
/-- How many devices further on a token goes, in words. -/
theorem rel_word (c : Fin 16) (a : Fin 32) :
    IntOp.remsi .vector (IntOp.addi (IntOp.subi (IntOp.divsi .vector (BitVec.ofNat 32 a.val) 2#32) (BitVec.ofNat 32 c.val)) 16#32) 16#32
      = BitVec.ofNat 32 (rel c a).val := by
  revert c a; decide +kernel

/-- The kernel's assignment of tokens to rows. -/
theorem perm_at (hf : Few f) (c : Dev nD) (t : Fin 512) (q : Fin 1024) :
    k0_pay6 (F := Ideal) (wd c) (k0_pay1 v) (k0_pay2 v) (k0_pay3 v) (k0_pay5 v) (ix2 t q) = if row f c t = q.val then 1 else 0 := by
  have hp := pos_lt f hf t
  have hr := row_lt f hf c t
  have hb := bef_lt f t
  have hc := cnt_le f (f t)
  have h1 : k0_pay1 (F := Ideal) v (ix2 t 0) = BitVec.ofNat 32 (f t).val := by pointwise [k0_pay1]; exact hv t
  pointwise [k0_pay6]
  rw [h1, wd_eq, rem2, rel_word, rank_at hv, fptosi_nat _ _ (by omega)]
  have ho : (Scalar.select (IntOp.cmpi .eq (BitVec.ofNat 32 ((f t).val % 2)) 1#32)
      (FloatOps.fptosi (F := Ideal) (φ := .f32) 32 (∑ _x : Fin 1, k0_pay2 (F := Ideal) v (ix2 t 0) * 0 + ∑ x : Fin 31, k0_pay2 (F := Ideal) v (ix2 t ⟨1 + x.val, by omega⟩) * k0_pay3 (F := Ideal) v (ix2 0 ⟨x.val, by omega⟩)))
      0#32) = BitVec.ofNat 32 (off f t) := by
    rw [show (1#32) = BitVec.ofNat 32 1 from rfl, cmpi_eq_nat _ _ (by omega) (by omega), select_bool]
    unfold off
    by_cases h : (f t).val % 2 = 1
    · rw [if_pos (by simpa using h), if_pos h, shifted_at hv t h, fptosi_nat _ _ (by have := cnt_le f (pre (f t)); omega)]
    · rw [if_neg (by simpa using h), if_neg h]
  rw [ho]
  have ha : IntOp.addi (BitVec.ofNat 32 (off f t)) (BitVec.ofNat 32 (bef f t (f t))) = BitVec.ofNat 32 (pos f t) :=
    (BitVec.ofNat_add ..).symm
  have hm : IntOp.addi (IntOp.muli (BitVec.ofNat 32 (rel c (f t)).val) 64#32) (BitVec.ofNat 32 (pos f t)) = BitVec.ofNat 32 (row f c t) := by
    show BitVec.ofNat 32 (rel c (f t)).val * BitVec.ofNat 32 64 + _ = _
    rw [← BitVec.ofNat_mul, ← BitVec.ofNat_add]; rfl
  rw [ha, hm, show (64#32) = BitVec.ofNat 32 64 from rfl, cmpi_slt_nat _ _ (by omega) (by omega), select_bool,
    if_pos (by simpa using hp), cmpi_eq_nat _ _ (by omega) (by omega), sitofp_bool]
  simp only [decide_eq_true_eq]

/-- What device `c` sends, given its tokens' experts and its tokens. -/
abbrev sent (v : Vec Ideal S512x1 .i32) (x : Vec Ideal S512x256 .bf16) (c : Dev nD) : FVec Ideal S16x65x256 .bf16 :=
  k0_pay9 (k0_pay3 v) (k0_pay7 (wd c) (k0_pay1 v) (k0_pay2 v) (k0_pay3 v) (k0_pay5 v) x) (k0_pay8 (k0_pay3 v)) (Scalar.ofBits .f32 0x43000000#32)

/-- A token is on its row. -/
theorem sent_tok (hf : Few f) (x : Vec Ideal S512x256 .bf16) (c : Dev nD) (t : Fin 512) (j : Fin 16) (i : Fin 64) (k : Fin 256)
    (h : row f c t = j.val * 64 + i.val) : sent v x c (ix3 j ⟨i.val, by omega⟩ k) = x (ix2 t k) := by
  have hi : i.val < 64 := i.isLt
  unfold sent
  pointwise [k0_pay9, k0_pay7]
  simp only [perm_at hv hf]
  rw [Finset.sum_eq_single t]
  · rw [if_pos h, one_mul]
  · intro u _ hu
    rw [if_neg fun e => hu (row_inj f hf c u t (e.trans h.symm)), zero_mul]
  · intro h; exact absurd (Finset.mem_univ _) h

omit hv in
/-- The kernel's 128 and 1/128 are finite. -/
theorem finite_128 : (∃ r : ℝ, Ideal.ofBits .f32 0x43000000#32 = (r : EReal)) ∧ ∃ r : ℝ, Ideal.ofBits .f32 0x3C000000#32 = (r : EReal) := by
  constructor <;> (simp [Ideal.ofBits, Ideal.ieee]; exact ⟨_, rfl⟩)

/-- The counts, sent as quotient and remainder by 128, are themselves when put together. -/
theorem sent_count (x : Vec Ideal S512x256 .bf16) (c : Dev nD) (j : Fin 16) (k : Fin 32) :
    sent v x c (ix3 j 64 ⟨k.val, by omega⟩) * Ideal.ofBits .f32 0x43000000#32 + sent v x c (ix3 j 64 ⟨32 + k.val, by omega⟩)
      = nE (cnt f k) := by
  obtain ⟨⟨a, ha⟩, b, hb⟩ := finite_128
  have e1 : sent v x c (ix3 j 64 ⟨k.val, by omega⟩) = k0_pay8 (k0_pay3 (F := Ideal) v) (ix2 0 k) := by
    unfold sent
    pointwise [k0_pay9]
  have e2 : sent v x c (ix3 j 64 ⟨32 + k.val, by omega⟩) = k0_pay3 (F := Ideal) v (ix2 0 k) - Ideal.ofBits .f32 0x43000000#32 * k0_pay8 (k0_pay3 (F := Ideal) v) (ix2 0 k) := by
    unfold sent
    pointwise [k0_pay9]
  have e3 : ∃ r : ℝ, k0_pay8 (k0_pay3 (F := Ideal) v) (ix2 0 k) = (r : EReal) := by
    pointwise [k0_pay8]
    rw [total_at hv, hb]; unfold nE; rw [← EReal.coe_mul, Ideal.liftRound_coe]; exact ⟨_, rfl⟩
  obtain ⟨r, hr⟩ := e3
  rw [e1, e2, hr, ha, total_at hv]; unfold nE
  rw [← EReal.coe_mul, ← EReal.coe_mul, ← EReal.coe_sub, ← EReal.coe_add]
  congr 1; ring

end Cert.MoE
-- ==== Proof.Experts.lean ====
/-
# What an expert device computes

The receive buffer, the experts' results and the returned results, read at an index over the extended reals.
-/
module

public import proofs.«01_k».proof.Proof.Sends

@[expose] public section

set_option maxRecDepth 16384

noncomputable section

namespace Cert.MoE

open Cert.KernelIdeal Cert.KernelIdeal.Gen
open Idealize.ShloMosaic

/-! ## Reading runs of slots -/

section Read
variable {F : FTy → Type}

/-- A token row of a run of slots; -/
theorem tok_at (g : BufA F) (o l : ℕ) (h : o + l ≤ 16) (p : Fin l) (i : Fin 64) (k : Fin 256) :
    tokOf g o l h (ix3 p i k) = g (ix3 ⟨o + p.val, by omega⟩ ⟨i.val, by omega⟩ k) := by
  refine congrArg g (funext fun x => ?_)
  fin_cases x
  · exact Fin.ext (by show o + 1 * p.val = o + p.val; omega)
  · exact Fin.ext (by show 0 + 1 * i.val = i.val; omega)
  · exact Fin.ext (by show 0 + 1 * k.val = k.val; omega)

/-- the count row of one; -/
theorem enc_at (g : BufA F) (o l : ℕ) (h : o + l ≤ 16) (p : Fin l) (k : Fin 256) :
    encOf g o l h (ix3 p 0 k) = g (ix3 ⟨o + p.val, by omega⟩ 64 k) := by
  refine congrArg g (funext fun x => ?_)
  fin_cases x
  · exact Fin.ext (by show o + 1 * p.val = o + p.val; omega)
  · rfl
  · exact Fin.ext (by show 0 + 1 * k.val = k.val; omega)

/-- a row of a run of returned results. -/
theorem res_at (g : BufB F) (o l : ℕ) (h : o + l ≤ 16) (p : Fin l) (i : Fin 64) (k : Fin 512) :
    resOf g o l h (ix3 p i k) = g (ix3 ⟨o + p.val, by omega⟩ i k) := by
  refine congrArg g (funext fun x => ?_)
  fin_cases x
  · exact Fin.ext (by show o + 1 * p.val = o + p.val; omega)
  · exact Fin.ext (by show 0 + 1 * i.val = i.val; omega)
  · exact Fin.ext (by show 0 + 1 * k.val = k.val; omega)

end Read

/-! ## The masks -/

/-- Which of the 32 is a device's first expert, as zeros and a one. -/
theorem first_at (c : Dev nD) (k : Fin 32) : k0_pay13 (F := Ideal) (firstE c) (ix2 0 k) = if k.val = 2 * c.val then 1 else 0 := by
  have hc : c.val < 16 := c.isLt
  unfold firstE
  pointwise [k0_pay13, k0_pay12]
  rw [wd_eq]
  have e : Scalar.muli (2#32) (BitVec.ofNat 32 c.val) = BitVec.ofNat 32 (2 * c.val) := by
    show BitVec.ofNat 32 2 * BitVec.ofNat 32 c.val = _
    rw [← BitVec.ofNat_mul]
  rw [e, cmpi_eq_nat _ _ (by omega) (by omega), sitofp_bool]
  simp only [decide_eq_true_eq]

/-- A sum over the experts weighted so is its term at the device's first. -/
theorem sum_first (c : Dev nD) (g : Fin 32 → EReal) :
    ∑ k, g k * k0_pay13 (F := Ideal) (firstE c) (ix2 0 k) = g ⟨2 * c.val, by have : c.val < 16 := c.isLt; omega⟩ := by
  have hc : c.val < 16 := c.isLt
  rw [Finset.sum_eq_single ⟨2 * c.val, by omega⟩]
  · rw [first_at, if_pos rfl, mul_one]
  · intro k _ hk
    rw [first_at, if_neg fun e => hk (Fin.ext e), mul_zero]
  · intro h; exact absurd (Finset.mem_univ _) h

/-- The row of a slot, as a number; -/
theorem within_at (j : Fin 5) (i : Fin 64) :
    k0_pay17 (F := Ideal) (ix2 ⟨j.val * 64 + i.val, by omega⟩ 0) = nE i.val := by
  have e : IntOp.remsi .vector (BitVec.ofNat 32 (j.val * 64 + i.val)) 64#32 = BitVec.ofNat 32 i.val := by
    revert j i; decide +kernel
  pointwise [k0_pay17]
  rw [e, sitofp_nat _ _ (by omega)]

/-- and the slot it lies in. -/
theorem slot_at (j p : Fin 5) (i : Fin 64) :
    k0_pay18 (ix2 ⟨j.val * 64 + i.val, by omega⟩ p) = BitVec.ofBool (decide (j = p)) := by
  have e : IntOp.divsi .vector (BitVec.ofNat 32 (j.val * 64 + i.val)) 64#32 = BitVec.ofNat 32 j.val := by
    revert j i; decide +kernel
  pointwise [k0_pay18]
  rw [e, cmpi_eq_nat _ _ (by omega) (by omega)]
  simp only [Fin.ext_iff]

/-- Two sums, the one masked and the other masked the other way, are one of them. -/
theorem masked (p : Prop) [Decidable p] (r w0 w1 : Fin 256 → EReal) :
    (∑ x, r x * (if p then (1 : EReal) else 0) * w0 x + ∑ x, r x * (1 - if p then (1 : EReal) else 0) * w1 x)
      = ∑ x, r x * (if p then w0 x else w1 x) := by
  by_cases h : p
  · simp only [if_pos h]
    have e : (1 : EReal) - 1 = 0 := by
      rw [← EReal.coe_one, ← EReal.coe_sub]; norm_num
    simp [e]
  · simp [h]

/-- Own results, for any operands. -/
theorem pay14_at (a : FVec Ideal S1x32 .f32) (w : FVec Ideal S2x256x512 .bf16) (e : IVec S1x32 1) (r : FVec Ideal S1x64x256 .bf16)
    (i : Fin 64) (h : Fin 512) (n : ℕ) (hn : ∑ k, a (ix2 0 k) * k0_pay13 (F := Ideal) e (ix2 0 k) = nE n) :
    k0_pay14 a w (iota .tc S64x1 32 [0] iota_S64x1_d0_w32) e r (ix3 0 i h)
      = ∑ k : Fin 256, r (ix3 0 i k) * w (ix3 (if i.val < n then 0 else 1) k h) := by
  pointwise [k0_pay14]
  simp only [Finset.univ_unique, Finset.sum_const, Finset.card_singleton, one_smul, hn,
    sitofp_nat _ _ (show i.val < 2 ^ 31 by omega), sitofp_bool, nE_lt, decide_eq_true_eq]
  rw [masked]
  refine Finset.sum_congr rfl fun k _ => ?_
  split <;> rfl

/-- The results on a group of slots, for any operands. -/
theorem pay19_at (w : FVec Ideal S2x256x512 .bf16) (b : FVec Ideal S5x1 .f32) (r : FVec Ideal S5x64x256 .bf16)
    (j : Fin 5) (i : Fin 64) (h : Fin 512) (n : ℕ) (hn : b (ix2 j 0) = nE n) :
    k0_pay19 w b k0_pay17 k0_pay18 r (ix3 j i h)
      = ∑ k : Fin 256, r (ix3 j i k) * w (ix3 (if i.val < n then 0 else 1) k h) := by
  pointwise [k0_pay19]
  simp only [within_at, slot_at, sitofp_bool, decide_eq_true_eq, ite_mul, one_mul, zero_mul, Finset.sum_ite_eq,
    Finset.mem_univ, if_true, hn, nE_lt]
  rw [masked]
  refine Finset.sum_congr rfl fun k _ => ?_
  split <;> rfl

/-- The counts of a group's slots, for any operands. -/
theorem pay16_at (k : FVec Ideal S1x32 .f32) (e : FVec Ideal S5x1x256 .bf16) (j : Fin 5) :
    k0_pay16 k e (ix2 j 0) = ∑ x : Fin 32, (e (ix3 j 0 ⟨x.val, by omega⟩) * Ideal.ofBits .f32 0x43000000#32 + e (ix3 j 0 ⟨32 + x.val, by omega⟩)) * k (ix2 0 x) := by
  pointwise [k0_pay16]

/-- The weights are cast to their own type. -/
theorem pay11_at (w : FVec Ideal S2x256x512 .bf16) : k0_pay11 w = w := by
  funext i; idx_vars i; pointwise [k0_pay11]

/-! ## The results -/

variable (m : (ℓ : Loc nD τ sig) → Buf (Elt Ideal) ℓ)

/-- Row `i` of slot `j` of device `c`'s results, when the first `n` rows of the slot are its first expert's. -/
def resRow (c : Dev nD) (j : Fin 16) (i : Fin 64) (h : Fin 512) (n : ℕ) : EReal :=
  ∑ k : Fin 256, RB m c (ix3 j ⟨i.val, by omega⟩ k) * wv m c (ix3 (if i.val < n then 0 else 1) k h)

variable {m} {f : Dev nD → Fin 512 → Fin 32} (hv : ∀ c, Names (iv m c) (f c))

/-- A device's first expert. -/
def fst (c : Dev nD) : Fin 32 := ⟨2 * c.val, by have : c.val < 16 := c.isLt; omega⟩

include hv

/-- The counts a device finds in slot `j`. -/
theorem counts_at (c : Dev nD) (j : Fin 16) (k : Fin 32) :
    RB m c (ix3 j 64 ⟨k.val, by omega⟩) * Ideal.ofBits .f32 0x43000000#32 + RB m c (ix3 j 64 ⟨32 + k.val, by omega⟩)
      = nE (cnt (f (dv c j.val)) k) :=
  sent_count (hv (dv c j.val)) (xv m (dv c j.val)) (dv c j.val) (opp j) k

/-- A device's results on its own tokens; -/
theorem own_at (c : Dev nD) (i : Fin 64) (h : Fin 512) :
    Y0 m c (ix3 0 i h) = resRow m c 0 i h (cnt (f c) (fst c)) := by
  unfold Y0
  rw [pay14_at _ _ _ _ i h (cnt (f c) (fst c)) (by rw [sum_first]; exact total_at (hv c) _), pay11_at]
  refine Finset.sum_congr rfl fun k _ => ?_
  rw [tok_at]; rfl

/-- and on those it received. -/
theorem group_at (o : ℕ) (ho : o + 5 ≤ 16) (c : Dev nD) (j : Fin 5) (i : Fin 64) (h : Fin 512) :
    YG m o ho c (ix3 j i h)
      = resRow m c ⟨o + j.val, by omega⟩ i h (cnt (f (dv c (o + j.val))) (fst c)) := by
  have hn : k0_pay16 (k0_pay13 (F := Ideal) (firstE c)) (encOf (RB m c) o 5 ho) (ix2 j 0) = nE (cnt (f (dv c (o + j.val))) (fst c)) := by
    rw [pay16_at, sum_first, enc_at, enc_at]
    exact counts_at hv c ⟨o + j.val, by omega⟩ (fst c)
  unfold YG
  rw [pay19_at _ _ _ j i h _ hn, pay11_at]
  refine Finset.sum_congr rfl fun k _ => ?_
  rw [tok_at]

/-- A device's results, slot by slot. -/
theorem results_at (c : Dev nD) (j : Fin 16) (i : Fin 64) (h : Fin 512) :
    YB m c (ix3 j i h) = resRow m c j i h (cnt (f (dv c j.val)) (fst c)) := by
  have e (o : ℕ) (ho : o + 5 ≤ 16) (h1 : o ≤ j.val) (h2 : j.val < o + 5) :
      YG m o ho c (ix3 (grp o j.val) i h) = resRow m c j i h (cnt (f (dv c j.val)) (fst c)) := by
    rw [group_at hv]
    have : o + (grp o j.val).val = j.val := by show o + (j.val - o) % 5 = j.val; omega
    simp only [this]
  show (if j.val < 1 then Y0 m c (ix3 0 i h) else if j.val < 6 then YG m 1 (by decide) c (ix3 (grp 1 j.val) i h)
    else if j.val < 11 then YG m 6 (by decide) c (ix3 (grp 6 j.val) i h) else YG m 11 (by decide) c (ix3 (grp 11 j.val) i h)) = _
  split_ifs with h0 h1 h2
  · have : j = 0 := Fin.ext (by simp only [Fin.val_zero]; omega)
    subst this
    rw [own_at hv, show dv c (0 : Fin 16).val = c from dv_zero c]
  · exact e 1 _ (by omega) (by omega)
  · exact e 6 _ (by omega) (by omega)
  · exact e 11 _ (by omega) (by omega)

/-- The results that come back to device `c` from the device `j` further on: that device's experts' on the rows `c` sent it. -/
theorem returned_at (c : Dev nD) (j : Fin 16) (i : Fin 64) (h : Fin 512) :
    YR m c (ix3 j i h) = ∑ k : Fin 256, SB m c (ix3 j ⟨i.val, by omega⟩ k)
      * wv m (dv c j.val) (ix3 (if i.val < cnt (f c) (fst (dv c j.val)) then 0 else 1) k h) := by
  have h1 : dv (dv c j.val) (opp j).val = c := by
    refine Fin.ext ?_
    show ((c.val + j.val) % 16 + (16 - j.val) % 16) % 16 = c.val
    have : c.val < 16 := c.isLt
    omega
  have h2 : opp (opp j) = j := Fin.ext (by show (16 - (16 - j.val) % 16) % 16 = j.val; omega)
  show YB m (dv c j.val) (ix3 (opp j) i h) = _
  rw [results_at hv, h1]
  refine Finset.sum_congr rfl fun k _ => ?_
  show SB m (dv (dv c j.val) (opp j).val) (ix3 (opp (opp j)) ⟨i.val, _⟩ k) * _ = _
  rw [h1, h2]

end Cert.MoE
-- ==== Proof.Out.lean ====
/-
# A device's block of the output

The output block read at an index over the extended reals: a token's product with its expert's weights, kept or not.
-/
module

public import proofs.«01_k».proof.Proof.Experts

@[expose] public section

set_option maxRecDepth 16384

noncomputable section

namespace Cert.MoE

open Cert.KernelIdeal Cert.KernelIdeal.Gen
open Idealize.ShloMosaic

/-- A sum over 256 consecutive rows of which a one picks a row. -/
theorem pick (r o : ℕ) (g : Fin 256 → EReal) :
    ∑ x : Fin 256, (if r = o + x.val then (1 : EReal) else 0) * g x = if h : o ≤ r ∧ r < o + 256 then g ⟨r - o, by omega⟩ else 0 := by
  simp only [ite_mul, one_mul, zero_mul]
  split_ifs with h
  · rw [Finset.sum_eq_single ⟨r - o, by omega⟩]
    · rw [if_pos (by simp only; omega)]
    · intro x _ hx
      exact if_neg fun e => hx (Fin.ext (by simp only; omega))
    · intro h; exact absurd (Finset.mem_univ _) h
  · exact Finset.sum_eq_zero fun x _ => if_neg (by have := x.isLt; omega)

/-- Taking rows back out of the four times four slots. -/
theorem unpack_at (p : FVec Ideal S512x1024 .bf16) (v1 v2 v3 v4 : FVec Ideal S4x64x512 .bf16) (Y : Fin 16 → Fin 64 → Fin 512 → EReal)
    (t : Fin 512) (h : Fin 512) (j : Fin 16) (i : Fin 64)
    (hp : ∀ q : Fin 1024, p (ix2 t q) = if j.val * 64 + i.val = q.val then 1 else 0)
    (h1 : ∀ (a : Fin 4) (b : Fin 64), v1 (ix3 a b h) = Y ⟨12 + a.val, by omega⟩ b h)
    (h2 : ∀ (a : Fin 4) (b : Fin 64), v2 (ix3 a b h) = Y ⟨8 + a.val, by omega⟩ b h)
    (h3 : ∀ (a : Fin 4) (b : Fin 64), v3 (ix3 a b h) = Y ⟨4 + a.val, by omega⟩ b h)
    (h4 : ∀ (a : Fin 4) (b : Fin 64), v4 (ix3 a b h) = Y ⟨0 + a.val, by omega⟩ b h) :
    k0_pay32 p (k0_pay31 p (k0_pay30 p (k0_pay29 p v1) v2) v3) v4 (ix2 t h) = Y j i h := by
  pointwise [k0_pay32, k0_pay31, k0_pay30, k0_pay29]
  simp only [hp, h1, h2, h3, h4]
  have p0 := pick (j.val * 64 + i.val) 0 fun x => Y ⟨0 + x.val / 64, by omega⟩ ⟨x.val % 64, by omega⟩ h
  simp only [Nat.zero_add] at p0
  have key (a b : ℕ) (ha : a < 16) (hb : b < 64) (e : a * 64 + b = j.val * 64 + i.val) : Y ⟨a, ha⟩ ⟨b, hb⟩ h = Y j i h := by
    rw [show (⟨a, ha⟩ : Fin 16) = j from Fin.ext (by simp only; omega), show (⟨b, hb⟩ : Fin 64) = i from Fin.ext (by simp only; omega)]
  rw [pick _ 768 fun x => Y ⟨12 + x.val / 64, by omega⟩ ⟨x.val % 64, by omega⟩ h,
    pick _ 512 fun x => Y ⟨8 + x.val / 64, by omega⟩ ⟨x.val % 64, by omega⟩ h,
    pick _ 256 fun x => Y ⟨4 + x.val / 64, by omega⟩ ⟨x.val % 64, by omega⟩ h]
  simp only [Nat.zero_add]
  rw [p0]
  split_ifs with c3 c2 c1 c0 <;> first
    | omega
    | (simp only [add_zero, zero_add]; exact key _ _ _ _ (by omega))

/-- Keeping a result. -/
theorem pay35_at (oh ex : FVec Ideal S512x32 .f32) (y : FVec Ideal S512x512 .f32) (d : FVec Ideal S16x32 .f32) (b : FVec Ideal S16x1 .f32)
    (t : Fin 512) (h : Fin 512) (k : Fin 32) (n : ℕ)
    (ho : ∀ x, oh (ix2 t x) = if k = x then 1 else 0)
    (hn : ex (ix2 t k) + ∑ j : Fin 16, d (ix2 j k) * b (ix2 j 0) = nE n) :
    k0_pay35 oh ex y d b (ix2 t h) = y (ix2 t h) * if nE n < Ideal.ofBits .f32 0x434C0000#32 then 1 else 0 := by
  pointwise [k0_pay35]
  simp only [ho, ite_mul, one_mul, zero_mul, Finset.sum_ite_eq, Finset.mem_univ, if_true, hn, sitofp_bool, decide_eq_true_eq]

/-- The counts of sixteen slots; -/
theorem pay33_at (v : FVec Ideal S16x1x256 .bf16) (j : Fin 16) (k : Fin 32) :
    k0_pay33 (F := Ideal) v (ix2 j k) = v (ix3 j 0 ⟨k.val, by omega⟩) * Ideal.ofBits .f32 0x43000000#32 + v (ix3 j 0 ⟨32 + k.val, by omega⟩) := by
  pointwise [k0_pay33]

/-- and which of the slots came from a device before this one. -/
theorem pay34_at (c : Dev nD) (j : Fin 16) :
    k0_pay34 (F := Ideal) (wd c) (ix2 j 0) = if (dv c j.val).val < c.val then 1 else 0 := by
  have hc : c.val < 16 := c.isLt
  have e : IntOp.remsi .vector (IntOp.addi (BitVec.ofNat 32 j.val) (BitVec.ofNat 32 c.val)) 16#32 = BitVec.ofNat 32 (dv c j.val).val := by
    have : ∀ (c : Fin 16) (j : Fin 16), IntOp.remsi .vector (IntOp.addi (BitVec.ofNat 32 j.val) (BitVec.ofNat 32 c.val)) 16#32 = BitVec.ofNat 32 ((c.val + j.val) % 16) := by
      decide +kernel
    exact this c j
  have hd : (dv c j.val).val < 16 := (dv c j.val).isLt
  pointwise [k0_pay34]
  rw [wd_eq, e, cmpi_slt_nat _ _ (by omega) (by omega), sitofp_bool]
  simp only [decide_eq_true_eq]

variable {m : (ℓ : Loc nD τ sig) → Buf (Elt Ideal) ℓ} {f : Dev nD → Fin 512 → Fin 32} (hv : ∀ c, Names (iv m c) (f c))

/-- How many tokens before token `t` of device `c`, over all the devices in order, name its expert. -/
def rank (f : Dev nD → Fin 512 → Fin 32) (c : Dev nD) (t : Fin 512) : ℕ :=
  bef (f c) t (f c t) + ∑ d : Dev nD, if d.val < c.val then cnt (f d) (f c t) else 0

/-- The device that has an expert. -/
def home (k : Fin 32) : Dev nD := ⟨k.val / 2, by show k.val / 2 < 16; omega⟩

/-- Going around the mesh passes each device once. -/
theorem sum_dv (c : Dev nD) (g : Dev nD → ℕ) : ∑ j : Fin 16, g (dv c j.val) = ∑ d : Dev nD, g d := by
  refine Fintype.sum_bijective (fun j : Fin 16 => dv c j.val) ?_ _ _ fun _ => rfl
  refine (Fintype.bijective_iff_injective_and_card _).mpr ⟨fun a b e => Fin.ext ?_, rfl⟩
  have := congrArg Fin.val e
  have h : (c.val + a.val) % 16 = (c.val + b.val) % 16 := this
  omega

include hv

/-- The results a device takes back out. -/
theorem back_at (hf : ∀ c, Few (f c)) (c : Dev nD) (t : Fin 512) (h : Fin 512) :
    k0_pay32 (perm m c) (k0_pay31 (perm m c) (k0_pay30 (perm m c) (k0_pay29 (perm m c) (resOf (YR m c) 12 4 (by decide)))
      (resOf (YR m c) 8 4 (by decide))) (resOf (YR m c) 4 4 (by decide))) (resOf (YR m c) 0 4 (by decide)) (ix2 t h)
      = ∑ k : Fin 256, xv m c (ix2 t k) * wv m (home (f c t)) (ix3 (if (f c t).val % 2 = 0 then 0 else 1) k h) := by
  have hp := pos_lt (f c) (hf c) t
  refine (unpack_at (perm m c) _ _ _ _ (fun j i h => YR m c (ix3 j i h)) t h (rel c (f c t)) ⟨pos (f c) t, hp⟩
    (fun q => perm_at (hv c) (hf c) c t q) (fun a b => res_at _ _ _ _ a b h) (fun a b => res_at _ _ _ _ a b h)
    (fun a b => res_at _ _ _ _ a b h) (fun a b => res_at _ _ _ _ a b h)).trans ?_
  have hd : dv c (rel c (f c t)).val = home (f c t) := Fin.ext (rel_to c (f c t))
  rw [returned_at hv, hd]
  refine Finset.sum_congr rfl fun k _ => ?_
  have e : SB m c (ix3 (rel c (f c t)) ⟨pos (f c) t, by omega⟩ k) = xv m c (ix2 t k) :=
    sent_tok (hv c) (hf c) (xv m c) c t (rel c (f c t)) ⟨pos (f c) t, hp⟩ k rfl
  rw [e]
  simp only [pos_even (f c) t (fst (home (f c t))) rfl]

/-- Device `c`'s block of the output. -/
theorem out_at (hf : ∀ c, Few (f c)) (c : Dev nD) (t : Fin 512) (h : Fin 512) :
    outAt m c (ix2 t h) = (∑ k : Fin 256, xv m c (ix2 t k) * wv m (home (f c t)) (ix3 (if (f c t).val % 2 = 0 then 0 else 1) k h))
      * if nE (rank f c t) < Ideal.ofBits .f32 0x434C0000#32 then 1 else 0 := by
  have hn : k0_pay4 (F := Ideal) (iv m c) (ix2 t (f c t)) + ∑ j : Fin 16, k0_pay33 (encOf (RB m c) 0 16 (by decide)) (ix2 j (f c t)) * k0_pay34 (F := Ideal) (wd c) (ix2 j 0)
      = nE (rank f c t) := by
    have e (j : Fin 16) : k0_pay33 (encOf (RB m c) 0 16 (by decide)) (ix2 j (f c t)) * k0_pay34 (F := Ideal) (wd c) (ix2 j 0)
        = nE (if (dv c j.val).val < c.val then cnt (f (dv c j.val)) (f c t) else 0) := by
      have e0 : (⟨0 + j.val, by omega⟩ : Fin 16) = j := Fin.ext (Nat.zero_add _)
      rw [pay33_at, enc_at, enc_at, e0, counts_at hv, pay34_at]
      split <;> simp [nE_zero]
    simp only [e]
    rw [before_at (hv c), nE_sum, ← nE_add, sum_dv c fun d => if d.val < c.val then cnt (f d) (f c t) else 0]
    rfl
  unfold outAt
  rw [pay35_at _ _ _ _ _ t h (f c t) _ (fun x => onehot_at (hv c) t x) hn, back_at hv hf]

end Cert.MoE
-- ==== Proof.RefValue.lean ====
/-
# The reference's result

The reference read at an index over the extended reals, when its tokens' experts are given by `e`.
-/
module

public import proofs.«01_k».proof.Proof.Words
public import proofs.«01_k».proof.Proof.Gen.ReferenceIdeal

@[expose] public section

set_option maxRecDepth 16384

noncomputable section

namespace Cert.MoE

open Cert.ReferenceIdeal Cert.ReferenceIdeal.Gen
open Idealize.ShloMosaic

/-- A left fold of sums is a sum. -/
theorem fold_sum {n : ℕ} (g : Fin n → EReal) (a : EReal) : (List.finRange n).foldl (fun r x => r + g x) a = a + ∑ x, g x := by
  have h (l : List (Fin n)) : ∀ a : EReal, l.foldl (fun r x => r + g x) a = a + (l.map g).sum := by
    induction l with
    | nil => intro a; simp
    | cons b l ih => intro a; rw [List.foldl_cons, ih, List.map_cons, List.sum_cons, add_assoc]
  rw [h, ← List.ofFn_eq_map, List.sum_ofFn]

/-- A window of the whole height, padded below by one less, sums a column down to its row. -/
theorem column_sum {n C : ℕ} (x : (⟨2, ![n + 1, C]⟩ : Shape).Idx → EReal)
    (h : (⟨2, ![n + 1, C]⟩ : Shape).ReduceWindows (![n + 1, 1] : Fin 2 → ℕ) ![1, 1] ![n, 0] ![0, 0] ⟨2, ![n + 1, C]⟩) (t : Fin (n + 1)) (k : Fin C) :
    Ideal.hostReduceWindowAdd ![n + 1, 1] ![1, 1] ![n, 0] ![0, 0] h x 0 (ix2 t k) = ∑ u : Fin (n + 1), if u ≤ t then x (ix2 u k) else 0 := by
  have ht := t.isLt
  have hk := k.isLt
  unfold Ideal.hostReduceWindowAdd Host.reduceWindow
  refine (fold_sum _ _).trans ?_
  rw [zero_add]
  let g (a : ℕ) : EReal := if hp : n ≤ t.val + a ∧ t.val + a - n < n + 1 then x (ix2 ⟨t.val + a - n, hp.2⟩ k) else 0
  refine (Finset.sum_congr rfl fun p _ => (?_ : _ = (fun a : (⟨2, ![n + 1, 1]⟩ : Shape).Idx => g (a 0).val) ((⟨2, ![n + 1, 1]⟩ : Shape).rowMajor.symm p))).trans ?_
  · obtain ⟨q, hq⟩ : ∃ q, (⟨2, ![n + 1, 1]⟩ : Shape).rowMajor.symm p = q := ⟨_, rfl⟩
    refine Eq.trans ?_ (congrArg (fun a : (⟨2, ![n + 1, 1]⟩ : Shape).Idx => g (a 0).val) hq).symm
    have hb : (q 1).val < 1 := (q 1).isLt
    dsimp only
    split
    · next hin =>
      have h0 := hin 0
      change n ≤ t.val * 1 + ((⟨2, ![n + 1, 1]⟩ : Shape).rowMajor.symm p 0).val ∧ t.val * 1 + ((⟨2, ![n + 1, 1]⟩ : Shape).rowMajor.symm p 0).val - n < n + 1 at h0
      rw [hq] at h0
      have h0' : n ≤ t.val + (q 0).val ∧ t.val + (q 0).val - n < n + 1 := by omega
      refine Eq.trans ?_ (dif_pos h0').symm
      refine congrArg x (funext fun d => ?_)
      fin_cases d
      · refine Fin.ext ?_
        show t.val * 1 + ((⟨2, ![n + 1, 1]⟩ : Shape).rowMajor.symm p 0).val - n = t.val + (q 0).val - n
        rw [hq, Nat.mul_one]
      · refine Fin.ext ?_
        show k.val * 1 + ((⟨2, ![n + 1, 1]⟩ : Shape).rowMajor.symm p 1).val - 0 = k.val
        rw [hq]; omega
    · next hin =>
      have hg (hn : ¬ (n ≤ t.val + (q 0).val ∧ t.val + (q 0).val - n < n + 1)) : g (q 0).val = 0 := dif_neg hn
      refine (hg fun hp => hin fun d => ?_).symm
      fin_cases d
      · show n ≤ t.val * 1 + ((⟨2, ![n + 1, 1]⟩ : Shape).rowMajor.symm p 0).val ∧ t.val * 1 + ((⟨2, ![n + 1, 1]⟩ : Shape).rowMajor.symm p 0).val - n < n + 1
        rw [hq]; omega
      · show 0 ≤ k.val * 1 + ((⟨2, ![n + 1, 1]⟩ : Shape).rowMajor.symm p 1).val ∧ k.val * 1 + ((⟨2, ![n + 1, 1]⟩ : Shape).rowMajor.symm p 1).val - 0 < C
        rw [hq]; omega
  refine (Equiv.sum_comp (⟨2, ![n + 1, 1]⟩ : Shape).rowMajor.symm (fun a : (⟨2, ![n + 1, 1]⟩ : Shape).Idx => g (a 0).val)).trans ?_
  rw [sum_idx2]
  have e (a : Fin (n + 1)) : (∑ b : Fin 1, g ((ix2 a b : (⟨2, ![n + 1, 1]⟩ : Shape).Idx) 0).val) = g a.val := by
    rw [Finset.univ_unique, Finset.sum_singleton]; rfl
  rw [Finset.sum_congr rfl fun a _ => e a]
  rw [← Finset.sum_filter]
  have hl : ∑ a : Fin (n + 1), g a.val
      = ∑ a ∈ Finset.univ.filter (fun a : Fin (n + 1) => n ≤ t.val + a.val), x (ix2 ⟨(t.val + a.val - n) % (n + 1), Nat.mod_lt _ (by omega)⟩ k) := by
    rw [Finset.sum_filter]
    refine Finset.sum_congr rfl fun a _ => ?_
    split
    · next hp =>
      refine (dif_pos (by omega)).trans ?_
      congr 2; exact Fin.ext (Nat.mod_eq_of_lt (by omega)).symm
    · next hp => exact dif_neg (by omega)
  rw [hl]
  refine Finset.sum_bij' (fun a _ => ⟨(t.val + a.val - n) % (n + 1), Nat.mod_lt _ (by omega)⟩)
    (fun u _ => ⟨(u.val + n - t.val) % (n + 1), Nat.mod_lt _ (by omega)⟩) ?_ ?_ ?_ ?_ ?_
  · intro a ha
    simp only [Finset.mem_filter, Finset.mem_univ, true_and, Fin.le_def] at ha ⊢
    rw [Nat.mod_eq_of_lt (by omega)]; omega
  · intro u hu
    simp only [Finset.mem_filter, Finset.mem_univ, true_and, Fin.le_def] at hu ⊢
    rw [Nat.mod_eq_of_lt (by omega)]; omega
  · intro a ha
    simp only [Finset.mem_filter, Finset.mem_univ, true_and] at ha
    refine Fin.ext ?_
    show ((t.val + a.val - n) % (n + 1) + n - t.val) % (n + 1) = a.val
    rw [Nat.mod_eq_of_lt (a := t.val + a.val - n) (by omega), Nat.mod_eq_of_lt (by omega)]; omega
  · intro u hu
    simp only [Finset.mem_filter, Finset.mem_univ, true_and, Fin.le_def] at hu
    refine Fin.ext ?_
    show (t.val + (u.val + n - t.val) % (n + 1) - n) % (n + 1) = u.val
    rw [Nat.mod_eq_of_lt (a := u.val + n - t.val) (by omega), Nat.mod_eq_of_lt (by omega)]; omega
  · intro a _; rfl

/-- The same of the operation as the reference has it. -/
theorem column_sum_host {n C : ℕ} (x : FVec Ideal ⟨2, ![n + 1, C]⟩ .f32) (init : FVec Ideal S_ .f32) (hu : 0 < S_.numel) (h0 : init (Shape.Idx.first hu) = 0)
    (h : (⟨2, ![n + 1, C]⟩ : Shape).ReduceWindows (![n + 1, 1] : Fin 2 → ℕ) ![1, 1] ![n, 0] ![0, 0] ⟨2, ![n + 1, C]⟩) (t : Fin (n + 1)) (k : Fin C) :
    Host.reduceWindowAdd ![n + 1, 1] ![1, 1] ![n, 0] ![0, 0] x init h hu (ix2 t k) = ∑ u : Fin (n + 1), if u ≤ t then x (ix2 u k) else 0 := by
  show Ideal.hostReduceWindowAdd _ _ _ _ h x (init _) _ = _
  rw [h0]; exact column_sum x h t k

/-- The reference's one-hot rows, as truth values. -/
abbrev oneHot (v : IVec S8192x1 32) : IVec S8192x32 1 := cmpi .eq (broadcastInDim S8192x32 ![0, 1] bcast_S8192x1_S8192x32_0_1 v) (iotaInDim S8192x32 32 1)

/-- Its running counts, each token included. -/
abbrev counts (v : IVec S8192x1 32) : FVec Ideal S8192x32 .f32 :=
  Host.reduceWindowAdd ![8192, 1] ![1, 1] ![8191, 0] ![0, 0] (uitofp .f32 (oneHot v)) (broadcastInDim S_ ![] bcast_S_S_ (constant (F := Ideal) S_ .f32 0x00000000#32))
    reduceWindows_S8192x32_S8192x32_w8192s1p8191_0_w1s1p0_0 h_S_

/-- Its result, given the running counts. -/
abbrev refOf (S : FVec Ideal S8192x32 .f32) (x : FVec Ideal S8192x256 .bf16) (v : IVec S8192x1 32) (w : FVec Ideal S32x256x512 .bf16) : FVec Ideal S8192x512 .f32 :=
  Host.reduceAdd (select (broadcastInDim S8192x32x512 ![0, 1, 2] bcast_S8192x32x1_S8192x32x512_0_1_2 (broadcastInDim S8192x32x1 ![0, 1] bcast_S8192x32_S8192x32x1_0_1
    (andi (oneHot v) (cmpf .olt (subf S (uitofp .f32 (oneHot v))) (broadcastInDim S8192x32 ![] bcast_S_S8192x32 (constant (F := Ideal) S_ .f32 0x434C0000#32))))))
    (Host.dotGeneral dot_S8192x256_S32x256x512_S8192x32x512_1_1_0_02_n_n none x w)
    (broadcastInDim S8192x32x512 ![] bcast_S_S8192x32x512 (id (constant (F := Ideal) S_ .f32 0x00000000#32))))
    (constant (F := Ideal) S_ .f32 0x00000000#32) reducesTo_S8192x32x512_S8192x512_d1 h_S_

variable {v : IVec S8192x1 32} {e : Fin 8192 → Fin 32} (hv : ∀ t, v (ix2 t 0) = BitVec.ofNat 32 (e t).val)
include hv

/-- A token's one-hot row is true at its expert alone. -/
theorem oneHot_at (t : Fin 8192) (k : Fin 32) : oneHot v (ix2 t k) = BitVec.ofBool (decide (e t = k)) := by
  pointwise [oneHot]
  rw [hv, cmpi_eq_nat _ _ (by omega) (by omega)]
  simp only [Fin.ext_iff]

omit hv in
/-- A truth value is one or zero as a number. -/
theorem uitofp_bool (b : Bool) : FloatOps.uitofp (F := Ideal) .f32 (BitVec.ofBool b) = if b then 1 else 0 := by
  cases b
  · show (((BitVec.ofBool false).toNat : ℝ) : EReal) = 0
    norm_num
  · show (((BitVec.ofBool true).toNat : ℝ) : EReal) = 1
    have : (BitVec.ofBool true).toNat = 1 := by decide
    rw [this]; norm_num

/-- The running counts count. -/
theorem counts_ref (t : Fin 8192) (k : Fin 32) : counts v (ix2 t k) = nE (Finset.univ.filter fun u => u ≤ t ∧ e u = k).card := by
  refine (column_sum_host (n := 8191) (C := 32) _ _ _ ?_ _ t k).trans ?_
  · exact Ideal.ofBits_zero_f32
  rw [← sum_ind]
  refine Finset.sum_congr rfl fun u _ => ?_
  have : uitofp (F := Ideal) .f32 (oneHot v) (ix2 u k) = if e u = k then 1 else 0 := by
    refine (congrArg (FloatOps.uitofp (F := Ideal) .f32) (oneHot_at hv u k)).trans ?_
    rw [uitofp_bool]; simp only [decide_eq_true_eq]
  rw [this]
  by_cases h1 : u ≤ t <;> by_cases h2 : e u = k <;> simp [h1, h2]

/-- The reference's result at an index. -/
theorem ref_at (x : FVec Ideal S8192x256 .bf16) (w : FVec Ideal S32x256x512 .bf16) (t : Fin 8192) (h : Fin 512) :
    refOf (counts v) x v w (ix2 t h)
      = if nE (Finset.univ.filter fun u => u < t ∧ e u = e t).card < Ideal.ofBits .f32 0x434C0000#32 then ∑ k : Fin 256, x (ix2 t k) * w (ix3 (e t) k h) else 0 := by
  have hc := counts_ref hv t
  generalize counts v = S at hc ⊢
  have hz : (id (constant (F := Ideal) S_ .f32 0x00000000#32) : FVec Ideal S_ .f32) ix0 = 0 := Ideal.ofBits_zero_f32
  pointwise [refOf]
  rw [hz, Finset.sum_eq_single (e t)]
  · have hk : IntOp.cmpi .eq (v (ix2 t 0)) (BitVec.ofNat 32 (e t).val) = BitVec.ofBool true := by
      rw [hv, cmpi_eq_nat _ _ (by omega) (by omega)]; simp
    have hn : (Finset.univ.filter fun u => u ≤ t ∧ e u = e t).card = (Finset.univ.filter fun u => u < t ∧ e u = e t).card + 1 := by
      have : (Finset.univ.filter fun u => u ≤ t ∧ e u = e t) = insert t (Finset.univ.filter fun u => u < t ∧ e u = e t) := by
        ext u
        simp only [Finset.mem_filter, Finset.mem_univ, true_and, Finset.mem_insert, le_iff_lt_or_eq]
        constructor
        · rintro ⟨h | rfl, h'⟩
          · exact Or.inr ⟨h, h'⟩
          · exact Or.inl rfl
        · rintro (rfl | ⟨h, h'⟩)
          · exact ⟨Or.inr rfl, rfl⟩
          · exact ⟨Or.inl h, h'⟩
      rw [this, Finset.card_insert_of_notMem (by simp)]
    have ha (b : Bool) : IntOp.andi (BitVec.ofBool true) (BitVec.ofBool b) = BitVec.ofBool b := by cases b <;> rfl
    rw [hk, uitofp_bool, if_pos rfl, hc, hn, ← nE_one, nE_sub _ _ (by omega), Nat.add_sub_cancel, ha, select_bool]
    simp only [decide_eq_true_eq]
  · intro k _ hk
    have hk' : IntOp.cmpi .eq (v (ix2 t 0)) (BitVec.ofNat 32 k.val) = BitVec.ofBool false := by
      rw [hv, cmpi_eq_nat _ _ (by omega) (by omega)]
      congr 1
      exact decide_eq_false fun h => hk (Fin.ext h.symm)
    have ha (b : BitVec 1) : IntOp.andi (BitVec.ofBool false) b = BitVec.ofBool false := by revert b; decide
    rw [hk', ha, select_bool]; rfl
  · intro h; exact absurd (Finset.mem_univ _) h

end Cert.MoE
-- ==== Proof.Fits.lean ====
/-
# The precondition

What the precondition says of a device's words: each names one of the 32 experts, and at most 64 name one of any one device's.
-/
module

public import proofs.«01_k».proof.Proof.Sends
public import proofs.«01_k».proof.Proof.Gen.Pre_fits_KernelIdeal
public import Idealize.ShloMosaic.Lib.StableHlo.Predicate

@[expose] public section

set_option maxRecDepth 16384

noncomputable section

namespace Cert.MoE

open Cert.Pre_fits_KernelIdeal Cert.Pre_fits_KernelIdeal.Gen
open Idealize.ShloMosaic

/-- A word from 0 up to 32 is one of the 32 numbers. -/
theorem word_lt (a : BitVec 32) (h : IntOp.andi (IntOp.cmpi .sge a 0#32) (IntOp.cmpi .slt a 32#32) = 1#1) : a.toNat < 32 := by
  have h2 : BitVec.ofBool ((0#32).sle a) &&& BitVec.ofBool (a.slt 32#32) = 1#1 := h
  have h3 : (0#32).sle a = true ∧ a.slt 32#32 = true := by
    revert h2
    cases (0#32).sle a <;> cases a.slt 32#32 <;> decide
  obtain ⟨h4, h5⟩ := h3
  rw [BitVec.sle_iff_toInt_le] at h4
  rw [BitVec.slt_iff_toInt_lt] at h5
  have e0 : (0#32).toInt = 0 := by decide
  have e1 : (32#32).toInt = 32 := by decide
  rw [e0] at h4
  rw [e1] at h5
  have := BitVec.toInt_eq_toNat_cond a
  split at this <;> omega

/-- A comparison that came out one. -/
theorem sle_of_cmpi (a b : BitVec 32) (h : IntOp.cmpi .sle a b = 1#1) : a.sle b = true := by
  have h1 : BitVec.ofBool (a.sle b) = 1#1 := h
  revert h1
  cases a.sle b <;> decide

/-- Half of such a word. -/
theorem half_word (a : Fin 32) (d : Fin 16) :
    IntOp.cmpi .eq (IntOp.divsi .host (BitVec.ofNat 32 a.val) 2#32) (BitVec.ofNat 32 d.val) = BitVec.ofBool (decide (a.val / 2 = d.val)) := by
  revert a d; decide +kernel

/-- A number of zeros and ones that is at most 64, as words. -/
theorem few_words {ι : Type} [Fintype ι] [DecidableEq ι] (hι : Fintype.card ι < 2 ^ 31) (p : ι → Prop) [DecidablePred p]
    (h : IntOp.cmpi .sle (Finset.fold IntOp.addi 0#32 (fun x => BitVec.setWidth 32 (BitVec.ofBool (decide (p x)))) Finset.univ) 64#32 = 1#1) :
    (Finset.univ.filter p).card ≤ 64 := by
  have hb (b : Bool) : (BitVec.setWidth 32 (BitVec.ofBool b)).toNat = if b then 1 else 0 := by cases b <;> decide
  have hs : ∑ x, (BitVec.setWidth 32 (BitVec.ofBool (decide (p x)))).toNat = (Finset.univ.filter p).card := by
    rw [Finset.card_filter]
    refine Finset.sum_congr rfl fun x _ => ?_
    rw [hb]; simp only [decide_eq_true_eq]
  have hc : (Finset.univ.filter p).card ≤ Fintype.card ι := Finset.card_le_univ _
  have hf := StableHlo.Predicate.toNat_fold_addi Finset.univ (fun x => BitVec.setWidth 32 (BitVec.ofBool (decide (p x)))) (by rw [hs]; omega)
  rw [hs] at hf
  have h2 := sle_of_cmpi _ _ h
  rw [BitVec.sle_iff_toInt_le, BitVec.toInt_eq_toNat_of_lt (by rw [hf]; omega), hf] at h2
  have e1 : (64#32).toInt = 64 := by decide
  rw [e1] at h2; omega

variable (x : FVec Ideal S512x256 .bf16) (r : FVec Ideal S256x32 .bf16) (v : IVec S512x1 32) (w : FVec Ideal S2x256x512 .bf16)

/-- Each word is one of the 32; -/
theorem fits_word (h : (fn x r v w).1 = fun _ => 1#1) (t : Fin 512) : (v (ix2 t 0)).toNat < 32 := by
  have := congrFun h (ix2 t 0)
  pointwise [fn] at this
  exact word_lt _ this

/-- and few of them name experts of one device. -/
theorem fits_few (h : (fn x r v w).2 = fun _ => 1#1) (f : Fin 512 → Fin 32) (hn : Names v f) : Few f := by
  intro d
  have hd := congrFun h (ix2 0 d)
  pointwise [fn] at hd
  have hc : Fintype.card (Fin 512) < 2 ^ 31 := by rw [Fintype.card_fin]; norm_num
  refine few_words hc (fun t => (f t).val / 2 = d.val) ?_
  simp only [hn _, half_word] at hd
  exact hd

/-- What the precondition says. -/
theorem fits_names (h1 : (fn x r v w).1 = fun _ => 1#1) (h2 : (fn x r v w).2 = fun _ => 1#1) : ∃ f : Fin 512 → Fin 32, Names v f ∧ Few f := by
  have hl := fits_word x r v w h1
  obtain ⟨f, hf⟩ : ∃ f : Fin 512 → Fin 32, ∀ t, (f t).val = (v (ix2 t 0)).toNat := ⟨fun t => ⟨_, hl t⟩, fun _ => rfl⟩
  have hn : Names v f := fun t => by rw [hf, BitVec.ofNat_toNat, BitVec.setWidth_eq]
  exact ⟨f, hn, fits_few x r v w h2 f hn⟩

end Cert.MoE
-- ==== Proof.Value.lean ====
/-
# The kernel computes the reference

Each device's block of the output is that device's block of the reference's result.
-/
module

public import proofs.«01_k».proof.Defs
public import proofs.«01_k».proof.Proof.Out
public import proofs.«01_k».proof.Proof.RefValue
public import proofs.«01_k».proof.Proof.Fits
public import proofs.«01_k».proof.Proof.Frames
public import Idealize.ShloMosaic.Lib.Layout
public import proofs.«01_k».proof.Proof.Gen.ReferenceIdeal.Run
public import Idealize.ShloMosaic.Lib.Pipeline.ValueKit.Geometry

@[expose] public section

set_option maxRecDepth 16384

noncomputable section

namespace Cert.MoE

open Cert.KernelIdeal Cert.KernelIdeal.Gen
open Idealize.ShloMosaic Idealize.ShloMosaic.TcCoe Idealize.SL.Sem

/-! ## All the tokens, in order -/

/-- Token `t` of device `c`, among all. -/
def tokG (c : Dev nD) (t : Fin 512) : Fin 8192 := ⟨c.val * 512 + t.val, by have : c.val < 16 := c.isLt; omega⟩

/-- The device a token is on; -/
def devOf (u : Fin 8192) : Dev nD := ⟨u.val / 512, by show u.val / 512 < 16; omega⟩
/-- its place there; -/
def tokIn (u : Fin 8192) : Fin 512 := ⟨u.val % 512, by omega⟩

/-- A token is the one at its place on its device. -/
theorem tokG_of (u : Fin 8192) : tokG (devOf u) (tokIn u) = u := Fin.ext (by show u.val / 512 * 512 + u.val % 512 = u.val; omega)
/-- Token `t` of device `c` is on device `c`, -/
theorem devOf_tokG (c : Dev nD) (t : Fin 512) : devOf (tokG c t) = c := Fin.ext (by show (c.val * 512 + t.val) / 512 = c.val; omega)
/-- at place `t`. -/
theorem tokIn_tokG (c : Dev nD) (t : Fin 512) : tokIn (tokG c t) = t := Fin.ext (by show (c.val * 512 + t.val) % 512 = t.val; omega)

/-- The devices' tokens are all the tokens. -/
def tokEquiv : Dev nD × Fin 512 ≃ Fin 8192 where
  toFun p := tokG p.1 p.2
  invFun u := (devOf u, tokIn u)
  left_inv p := by show (devOf (tokG p.1 p.2), tokIn (tokG p.1 p.2)) = p; rw [devOf_tokG, tokIn_tokG]
  right_inv u := tokG_of u

/-- All the tokens' experts. -/
def expOf (f : Dev nD → Fin 512 → Fin 32) (u : Fin 8192) : Fin 32 := f (devOf u) (tokIn u)

/-- The expert of token `t` of device `c`. -/
theorem expOf_tokG (f : Dev nD → Fin 512 → Fin 32) (c : Dev nD) (t : Fin 512) : expOf f (tokG c t) = f c t := by
  unfold expOf; rw [devOf_tokG, tokIn_tokG]

/-- The tokens before a token that name its expert, counted over all tokens, are those counted device by device. -/
theorem rank_eq (f : Dev nD → Fin 512 → Fin 32) (c : Dev nD) (t : Fin 512) :
    (Finset.univ.filter fun u => u < tokG c t ∧ expOf f u = expOf f (tokG c t)).card = rank f c t := by
  rw [Finset.card_filter, ← Equiv.sum_comp tokEquiv, Fintype.sum_prod_type]
  have e (d : Dev nD) : (∑ s : Fin 512, if tokEquiv (d, s) < tokG c t ∧ expOf f (tokEquiv (d, s)) = expOf f (tokG c t) then 1 else 0)
      = (if d = c then bef (f c) t (f c t) else 0) + if d.val < c.val then cnt (f d) (f c t) else 0 := by
    have hg (s : Fin 512) : tokEquiv (d, s) = tokG d s := rfl
    simp only [hg, expOf_tokG]
    have hl (s : Fin 512) : tokG d s < tokG c t ↔ d.val < c.val ∨ d = c ∧ s < t := by
      show d.val * 512 + s.val < c.val * 512 + t.val ↔ d.val < c.val ∨ d = c ∧ s.val < t.val
      have hs := s.isLt
      have ht := t.isLt
      rw [Fin.ext_iff]
      omega
    simp only [hl]
    by_cases h1 : d = c
    · subst h1
      simp only [lt_irrefl, true_and, false_or, if_true, if_false, add_zero]
      unfold bef
      rw [Finset.card_filter]
    · by_cases h2 : d.val < c.val
      · simp only [h1, h2, true_or, true_and, if_true, if_false, zero_add]
        unfold cnt
        rw [Finset.card_filter]
      · simp [h1, h2]
  rw [Finset.sum_congr rfl fun d _ => e d, Finset.sum_add_distrib, Finset.sum_ite_eq' , if_pos (Finset.mem_univ _)]
  rfl

/-! ## The staged inputs are the arguments, the output array the kernel's block -/

section
variable {F : FTy → Type} [FloatOps F] (m : (ℓ : Loc nD τ sig) → Buf (Elt F) ℓ) (ρ : Dev nD → PrngReg)

/-- The staged tokens are the argument; -/
theorem xv_eq (c : Dev nD) : xv m c = m ((c : Thread nD τ).loc main_arg0) :=
  funext fun i => congrArg (m _) (funext fun a => Fin.ext (win0_0.rect_emb_val_of_index_zero t0_0 a rfl i))
/-- so are the staged routing indices -/
theorem iv_eq (c : Dev nD) : iv m c = m ((c : Thread nD τ).loc main_arg2) :=
  funext fun i => congrArg (m _) (funext fun a => Fin.ext (win0_1.rect_emb_val_of_index_zero t0_0 a rfl i))
/-- and the staged weights. -/
theorem wv_eq (c : Dev nD) : wv m c = m ((c : Thread nD τ).loc main_arg3) :=
  funext fun i => congrArg (m _) (funext fun a => Fin.ext (win0_2.rect_emb_val_of_index_zero t0_0 a rfl i))

/-- The output array ends holding what the body leaves in its block. -/
theorem final_out (c : Dev nD) : (dats m ρ 0 c).arrAt (3 : Fin 4) cfg0.N = outAt m c := by
  refine (dats m ρ 0 c).arrAt_eq_of_after_last (3 : Fin 4) t0_0 (by decide +kernel) _ fun j => ?_
  rfl
end

/-! ## The equation -/

/-- Where a token's row of a cut array is in the whole one; -/
theorem row_idx (n : ℕ) (h : Layout.Tiles ⟨2, ![512, n]⟩ ⟨2, ![8192, n]⟩ 0 16) (c : Dev nD) (t : Fin 512) (k : Fin n) :
    h.idx c (ix2 t k) = ix2 (tokG c t) k :=
  funext fun a => Fin.ext (by fin_cases a <;> rfl)

/-- an expert's matrix, on its device. -/
theorem mat_idx (h : Layout.Tiles ⟨3, ![2, 256, 512]⟩ ⟨3, ![32, 256, 512]⟩ 0 16) (e : Fin 32) (k : Fin 256) (l : Fin 512) :
    h.idx (home e) (ix3 (if e.val % 2 = 0 then 0 else 1) k l) = ix3 e k l := by
  refine funext fun a => Fin.ext ?_
  fin_cases a
  · show e.val / 2 * 2 + (if e.val % 2 = 0 then (0 : Fin 2) else 1).val = e.val
    split <;> simp <;> omega
  · rfl
  · rfl

section
variable {m : (ℓ : Loc nD τ sig) → Buf (Elt Ideal) ℓ} {x : FVec Ideal Cert.ReferenceIdeal.S8192x256 .bf16}
  {v : IVec Cert.ReferenceIdeal.S8192x1 32} {w : FVec Ideal Cert.ReferenceIdeal.S32x256x512 .bf16}
  (hx : ∀ c : Dev nD, m ((c.tc : Thread nD τ).loc main_arg0) = Layout.block ⟨2, ![512, 256]⟩ ⟨2, ![8192, 256]⟩ 0 16 c x)
  (hr : ∀ c : Dev nD, m ((c.tc : Thread nD τ).loc main_arg2) = Layout.block ⟨2, ![512, 1]⟩ ⟨2, ![8192, 1]⟩ 0 16 c v)
  (hw : ∀ c : Dev nD, m ((c.tc : Thread nD τ).loc main_arg3) = Layout.block ⟨3, ![2, 256, 512]⟩ ⟨3, ![32, 256, 512]⟩ 0 16 c w)

include hx in
/-- A device's tokens are its rows of all the tokens; -/
theorem xv_all (c : Dev nD) (t : Fin 512) (k : Fin 256) : xv m c (ix2 t k) = x (ix2 (tokG c t) k) := by
  rw [xv_eq, hx, Layout.block_apply, row_idx]

include hr in
/-- the words that route them likewise; -/
theorem iv_all (c : Dev nD) (t : Fin 512) : iv m c (ix2 t 0) = v (ix2 (tokG c t) 0) := by
  rw [iv_eq, hr, Layout.block_apply, row_idx]

include hw in
/-- and an expert's matrix is the one its device holds. -/
theorem wv_all (e : Fin 32) (k : Fin 256) (l : Fin 512) :
    wv m (home e) (ix3 (if e.val % 2 = 0 then 0 else 1) k l) = w (ix3 e k l) := by
  rw [wv_eq, hw, Layout.block_apply, mat_idx]

include hx hr hw in
/-- What the kernel leaves on a device is that device's block of the reference's result. -/
theorem out_block (f : Dev nD → Fin 512 → Fin 32) (hv : ∀ c, Names (iv m c) (f c)) (hf : ∀ c, Few (f c)) (c : Dev nD) :
    outAt m c = Layout.block ⟨2, ![512, 512]⟩ ⟨2, ![8192, 512]⟩ 0 16 c (refOf (counts v) x v w) := by
  have hn (u : Fin 8192) : v (ix2 u 0) = BitVec.ofNat 32 (expOf f u).val := by
    rw [← tokG_of u, ← iv_all hr, expOf_tokG]
    exact hv _ _
  funext i
  obtain ⟨t, h, rfl⟩ : ∃ (t : Fin 512) (h : Fin 512), i = ix2 t h := ⟨i 0, i 1, funext fun a => by fin_cases a <;> rfl⟩
  rw [Layout.block_apply, row_idx, ref_at hn, rank_eq, expOf_tokG, out_at hv hf]
  simp only [xv_all hx, wv_all hw, mul_ite, mul_one, mul_zero]
end

/-! ## The claim -/

/-- From memories where the devices hold their parts of the reference's arguments, and the routing words fit: the kernel ends
    with each device holding its block of the reference's result, and both leave their arguments as they were. -/
theorem algebraic : Cert.algebraic_KernelIdeal_ReferenceIdeal_pre_fits_KernelIdeal := by
  intro m g m' g' hp hb
  have hfit (c : Dev nD) : ∃ f : Fin 512 → Fin 32, Names (iv m c) f ∧ Few f := by
    rw [iv_eq]
    exact fits_names _ _ _ _ (hp c).1 (hp c).2
  choose f hv hf using hfit
  refine ⟨_, (θ_run _ _ _).mono (fun r h c => ⟨((h.1 c).1 (3 : Fin 4)).trans ((final_out m g c).trans
      (out_block (fun c => (hb c).1) (fun c => (hb c).2.2.1) (fun c => (hb c).2.2.2) f hv hf c)), final_args m g r h.1 c⟩) (run_main m g),
    (θ_run _ _ _).mono (fun r h => h 0) (Cert.ReferenceIdeal.Value.run m' g')⟩

end Cert.MoE
-- ==== Proof.lean ====
/-
# The claim

The frames of the kernel and of the reference, that the kernel over the extended reals is the kernel printed, and that
on arguments that fit it computes the reference.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_fits_KernelIdeal
public import proofs.«01_k».proof.Proof.Gen.Pre_fits_ReferenceIdeal
public import proofs.«01_k».proof.Proof.Frames
public import proofs.«01_k».proof.Proof.Value

@[expose] public section

noncomputable section

namespace Cert.Proof

/-- All the claims: the frames, that the ideal kernel is the printed one, and that it computes the reference. -/
theorem claim : Cert.Claim :=
  ⟨Cert.Kernel.Gen.facts, Cert.KernelIdeal.Gen.facts, Cert.ReferenceIdeal.Gen.facts, Cert.Pre_fits_KernelIdeal.Gen.facts,
    Cert.Pre_fits_ReferenceIdeal.Gen.facts,
    Cert.MoE.frame_kernel, Cert.MoE.frame_kernelIdeal, fun m ρ _ => Cert.MoE.frame_kernelIdeal m ρ trivial,
    Cert.MoE.frame_reference, fun m ρ _ => Cert.MoE.frame_reference m ρ trivial, trivial, Cert.MoE.algebraic⟩

end Cert.Proof

end
